-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x18432 : Shape := ⟨3, ![6, 4096, 18432]⟩
abbrev S6x4096x144 : Shape := ⟨3, ![6, 4096, 144]⟩
abbrev S4608x18432 : Shape := ⟨2, ![4608, 18432]⟩
abbrev S36x144 : Shape := ⟨2, ![36, 144]⟩
abbrev S24576x18432 : Shape := ⟨2, ![24576, 18432]⟩
abbrev S24576x8x18 : Shape := ⟨3, ![24576, 8, 18]⟩
abbrev S8x24576x18 : Shape := ⟨3, ![8, 24576, 18]⟩
abbrev S24576x2304 : Shape := ⟨2, ![24576, 2304]⟩
abbrev S24576x18 : Shape := ⟨2, ![24576, 18]⟩
abbrev S1024x2304 : Shape := ⟨2, ![1024, 2304]⟩
abbrev S1x1024x18 : Shape := ⟨3, ![1, 1024, 18]⟩
abbrev S256x2304 : Shape := ⟨2, ![256, 2304]⟩
abbrev S1024x256 : Shape := ⟨2, ![1024, 256]⟩
abbrev S1024x18 : Shape := ⟨2, ![1024, 18]⟩
abbrev S1x1024x1 : Shape := ⟨3, ![1, 1024, 1]⟩
abbrev S1024x1 : Shape := ⟨2, ![1024, 1]⟩
abbrev S1024x128 : Shape := ⟨2, ![1024, 128]⟩
abbrev S1x1 : Shape := ⟨2, ![1, 1]⟩
abbrev S128x128 : Shape := ⟨2, ![128, 128]⟩
abbrev S256x128 : Shape := ⟨2, ![256, 128]⟩
abbrev S1024 : Shape := ⟨1, ![1024]⟩

abbrev nBuf : Space → Nat
  | .hbm => 9
  | .vmem => 14
  | .smem => 1
  | _ => 0

abbrev bufTy : (tb : Table) → Fin (tcTables nBuf tb) → BufTy
  | .hbm, ⟨0, _⟩ => ⟨S6x4096x18432, .fp8e4m3⟩
  | .hbm, ⟨1, _⟩ => ⟨S6x4096x144, .f32⟩
  | .hbm, ⟨2, _⟩ => ⟨S4608x18432, .fp8e4m3⟩
  | .hbm, ⟨3, _⟩ => ⟨S36x144, .f32⟩
  | .hbm, ⟨4, _⟩ => ⟨S24576x18432, .fp8e4m3⟩
  | .hbm, ⟨5, _⟩ => ⟨S24576x8x18, .f32⟩
  | .hbm, ⟨6, _⟩ => ⟨S8x24576x18, .f32⟩
  | .hbm, ⟨7, _⟩ => ⟨S24576x2304, .fp8e4m3⟩
  | .hbm, ⟨8, _⟩ => ⟨S24576x18, .f32⟩
  | .local _ .vmem, ⟨0, _⟩ => ⟨S1024x2304, .fp8e4m3⟩
  | .local _ .vmem, ⟨1, _⟩ => ⟨S1024x2304, .fp8e4m3⟩
  | .local _ .vmem, ⟨2, _⟩ => ⟨S1x1024x18, .f32⟩
  | .local _ .vmem, ⟨3, _⟩ => ⟨S1x1024x18, .f32⟩
  | .local _ .vmem, ⟨4, _⟩ => ⟨S256x2304, .fp8e4m3⟩
  | .local _ .vmem, ⟨5, _⟩ => ⟨S256x2304, .fp8e4m3⟩
  | .local _ .vmem, ⟨6, _⟩ => ⟨S256x2304, .fp8e4m3⟩
  | .local _ .vmem, ⟨7, _⟩ => ⟨S256x2304, .fp8e4m3⟩
  | .local _ .vmem, ⟨8, _⟩ => ⟨S1024x256, .fp8e4m3⟩
  | .local _ .vmem, ⟨9, _⟩ => ⟨S1024x256, .fp8e4m3⟩
  | .local _ .vmem, ⟨10, _⟩ => ⟨S1024x18, .f32⟩
  | .local _ .vmem, ⟨11, _⟩ => ⟨S1024x18, .f32⟩
  | .local _ .vmem, ⟨12, _⟩ => ⟨S1024x256, .f32⟩
  | .local _ .vmem, ⟨13, _⟩ => ⟨S1024x256, .f32⟩
  | .local _ .smem, ⟨0, _⟩ => ⟨S36x144, .f32⟩
  | _, _ => ⟨S6x4096x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![24, 9, 8], ![false, false, false]⟩

def k0_off1 (i : grid0.Coords) (c0_i32_5 : BitVec 32) (c0_i32_6 : BitVec 32) (c0_i32_7 : BitVec 32) : Fin 2 → Nat :=
  let arg1 : BitVec 32 := BitVec.ofNat 32 (i 1).val
  let c2_i32 : BitVec 32 := 2#32
  let v11 : BitVec 32 := Scalar.muli arg1 c2_i32
  let v12 : BitVec 32 := Scalar.addi c0_i32_5 v11
  let v13 : BitVec 32 := Scalar.addi v12 c0_i32_6
  let v16 : Index := Scalar.indexCast v13
  let arg2 : BitVec 32 := BitVec.ofNat 32 (i 2).val
  let c18_i32 : BitVec 32 := 18#32
  let v14 : BitVec 32 := Scalar.muli arg2 c18_i32
  let v15 : BitVec 32 := Scalar.addi v14 c0_i32_7
  let v17 : Index := Scalar.indexCast v15
  ![v16.toNat, v17.toNat]
def k0_cond2 (i : grid0.Coords) : BitVec 1 :=
  let arg2 : BitVec 32 := BitVec.ofNat 32 (i 2).val
  let c7_i32_551 : BitVec 32 := 7#32
  let v1134 : BitVec 1 := Scalar.cmpi .eq arg2 c7_i32_551
  let v1135 : BitVec 32 := Scalar.extui v1134
  let c0_i32_552 : BitVec 32 := 0#32
  let v1136 : BitVec 1 := Scalar.cmpi .ne v1135 c0_i32_552
  v1136

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg1
  let c0_i32 : BitVec 32 := 0#32
  ![v0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .smem S36x144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x18 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x2304 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x2304 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x18 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S6x4096x18432 : Shape := ⟨3, ![6, 4096, 18432]⟩
abbrev S6x4096x144 : Shape := ⟨3, ![6, 4096, 144]⟩
abbrev S4608x18432 : Shape := ⟨2, ![4608, 18432]⟩
abbrev S36x144 : Shape := ⟨2, ![36, 144]⟩
abbrev S24576x18432 : Shape := ⟨2, ![24576, 18432]⟩
abbrev S24576x144 : Shape := ⟨2, ![24576, 144]⟩
abbrev S24576x2304 : Shape := ⟨2, ![24576, 2304]⟩
abbrev S24576x18 : Shape := ⟨2, ![24576, 18]⟩
abbrev S24576x144x128 : Shape := ⟨3, ![24576, 144, 128]⟩
abbrev S24576x144x1 : Shape := ⟨3, ![24576, 144, 1]⟩
abbrev S36x128x144x128 : Shape := ⟨4, ![36, 128, 144, 128]⟩
abbrev S36x1x144x1 : Shape := ⟨4, ![36, 1, 144, 1]⟩
abbrev S24576x4608 : Shape := ⟨2, ![24576, 4608]⟩
abbrev S24576x18x128 : Shape := ⟨3, ![24576, 18, 128]⟩
abbrev S24576x18x1 : Shape := ⟨3, ![24576, 18, 1]⟩
abbrev S24576x18x252 : Shape := ⟨3, ![24576, 18, 252]⟩

abbrev nBuf : Space → Nat
  | .hbm => 8
  | .vmem => 6
  | .smem => 0
  | _ => 0

abbrev bufTy : (tb : Table) → Fin (tcTables nBuf tb) → BufTy
  | .hbm, ⟨0, _⟩ => ⟨S6x4096x18432, .fp8e4m3⟩
  | .hbm, ⟨1, _⟩ => ⟨S6x4096x144, .f32⟩
  | .hbm, ⟨2, _⟩ => ⟨S4608x18432, .fp8e4m3⟩
  | .hbm, ⟨3, _⟩ => ⟨S36x144, .f32⟩
  | .hbm, ⟨4, _⟩ => ⟨S24576x18432, .fp8e4m3⟩
  | .hbm, ⟨5, _⟩ => ⟨S24576x144, .f32⟩
  | .hbm, ⟨6, _⟩ => ⟨S24576x2304, .fp8e4m3⟩
  | .hbm, ⟨7, _⟩ => ⟨S24576x18, .f32⟩
  | .local _ .vmem, ⟨0, _⟩ => ⟨S24576x18432, .fp8e4m3⟩
  | .local _ .vmem, ⟨1, _⟩ => ⟨S24576x144, .f32⟩
  | .local _ .vmem, ⟨2, _⟩ => ⟨S4608x18432, .fp8e4m3⟩
  | .local _ .vmem, ⟨3, _⟩ => ⟨S36x144, .f32⟩
  | .local _ .vmem, ⟨4, _⟩ => ⟨S24576x2304, .fp8e4m3⟩
  | .local _ .vmem, ⟨5, _⟩ => ⟨S24576x18, .f32⟩
  | _, _ => ⟨S6x4096x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2304 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x18 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelPoints.lean ====
/-
  What the runs of the kernel body, before the idealization, are stated over: the two branch conditions as conditions on the grid point, the
  staging buffers of the seven windows and the two accumulators.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 1728 := Nat.lt_of_lt_of_eq t.isLt N_0
    have e0 : (grid0.coords t 0).val = t.val / 72 % 24 := Pipeline.Grid.coords_val t 0 (by decide) rfl
    have e1 : (grid0.coords t 1).val = t.val / 8 % 9 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 1728 := Nat.lt_of_lt_of_eq t.isLt N_0
    have e0 : (grid0.coords t 0).val = t.val / 72 % 24 := Pipeline.Grid.coords_val t 0 (by decide) rfl
    have e1 : (grid0.coords t 1).val = t.val / 8 % 9 := Pipeline.Grid.coords_val t 1 (by decide) rfl
    have e2 : (grid0.coords t 2).val = t.val / 1 % 8 := Pipeline.Grid.coords_val t 2 (by decide) rfl
    simp only [cond0_1, k0_cond2, e0, e1, e2]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S36x144 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2304 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x18 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2304 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2304 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x18 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x256 .f32 := Memref.whole cc0_scratch0
abbrev scM0_1 : Memref sig .tc .vmem S1024x256 .f32 := Memref.whole cc0_scratch1
/-- The scratch `arg10` the kernel carries between points, as a view: what it holds is stated through it. -/
abbrev VS0_0 : View sig .tc .vmem S1024x256 .f32 := scM0_0.view
/-- The scratch `arg11` the kernel carries between points, as a view: what it holds is stated through it. -/
abbrev VS0_1 : View sig .tc .vmem S1024x256 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KernelRunA.lean ====
/-
  The kernel body, before the idealization, at the first contraction step of a tile.
-/
module

public import proofs.«01_k».proof.Proof.KernelPoints

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3080000 in
/-- The body at the first contraction step of a tile runs: it leaves the five inputs as they were, the two output buffers and
    the two accumulators at some contents. -/
theorem run_A (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S36x144 .f32) (x1 : Vec F S1024x2304 .fp8e4m3) (x2 : Vec F S1x1024x18 .f32) (x3 : Vec F S256x2304 .fp8e4m3) (x4 : Vec F S256x2304 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gate_up_swiglu i arg3 harg3 arg4 harg4 arg5 harg5 arg6 harg6 arg7 harg7 arg8 harg8 arg9 harg9 arg10 harg10 arg11 harg11) K := by
  intro E K
  simp only [cc0_gate_up_swiglu_eq_skeleton]; unfold cc0_gate_up_swiglu_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _, _; isplitr; swap; · iexact H5
    ipureintro; rfl
  isplitl [H6]
  · iexists _, _; isplitr; swap; · iexact H6
    ipureintro; rfl
  isplitl [HS0]
  · iexists _, _; isplitr; swap; · iexact HS0
    ipureintro; rfl
  iexists _, _; isplitr; swap; · iexact HS1
  ipureintro; rfl

end Cert.Kernel.Body

end
-- ==== Proof.KernelRunB.lean ====
/-
  The kernel body, before the idealization, at a middle contraction step of a tile.
-/
module

public import proofs.«01_k».proof.Proof.KernelRunA

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3056000 in
/-- The body at a middle contraction step of a tile runs: it leaves the five inputs as they were, the two output buffers and
    the two accumulators at some contents. -/
theorem run_B (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S36x144 .f32) (x1 : Vec F S1024x2304 .fp8e4m3) (x2 : Vec F S1x1024x18 .f32) (x3 : Vec F S256x2304 .fp8e4m3) (x4 : Vec F S256x2304 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gate_up_swiglu i arg3 harg3 arg4 harg4 arg5 harg5 arg6 harg6 arg7 harg7 arg8 harg8 arg9 harg9 arg10 harg10 arg11 harg11) K := by
  intro E K
  simp only [cc0_gate_up_swiglu_eq_skeleton]; unfold cc0_gate_up_swiglu_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _, _; isplitr; swap; · iexact H5
    ipureintro; rfl
  isplitl [H6]
  · iexists _, _; isplitr; swap; · iexact H6
    ipureintro; rfl
  isplitl [HS0]
  · iexists _, _; isplitr; swap; · iexact HS0
    ipureintro; rfl
  iexists _, _; isplitr; swap; · iexact HS1
  ipureintro; rfl

end Cert.Kernel.Body

end
-- ==== Proof.KernelRunC.lean ====
/-
  The kernel body, before the idealization, at the last contraction step of a tile.
-/
module

public import proofs.«01_k».proof.Proof.KernelRunB

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3156000 in
/-- The body at the last contraction step of a tile runs: it leaves the five inputs as they were, the two output buffers and
    the two accumulators at some contents. -/
theorem run_C (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S36x144 .f32) (x1 : Vec F S1024x2304 .fp8e4m3) (x2 : Vec F S1x1024x18 .f32) (x3 : Vec F S256x2304 .fp8e4m3) (x4 : Vec F S256x2304 .fp8e4m3) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gate_up_swiglu i arg3 harg3 arg4 harg4 arg5 harg5 arg6 harg6 arg7 harg7 arg8 harg8 arg9 harg9 arg10 harg10 arg11 harg11) K := by
  intro E K
  simp only [cc0_gate_up_swiglu_eq_skeleton]; unfold cc0_gate_up_swiglu_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _, _; isplitr; swap; · iexact H5
    ipureintro; rfl
  isplitl [H6]
  · iexists _, _; isplitr; swap; · iexact H6
    ipureintro; rfl
  isplitl [HS0]
  · iexists _, _; isplitr; swap; · iexact HS0
    ipureintro; rfl
  iexists _, _; isplitr; swap; · iexact HS1
  ipureintro; rfl

end Cert.Kernel.Body

end
-- ==== Proof.KernelFrame.lean ====
/-
  The kernel, before the idealization, runs from any memory and keeps its arguments: the pipeline's proof data with nothing
  said of what the body leaves in the outputs and in the accumulators.
-/
module

public import proofs.«01_k».proof.Proof.KernelRunC
public import Idealize.ShloMosaic.Lib.Pipeline.DatRel
public import Idealize.ShloMosaic.Lib.Pipeline.ArrRel
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two output windows, of which nothing is said. -/
def outs : Fin 7 → Bool := fun w => w.val == 5 || w.val == 6

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d))

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, H5, H6⟩
  by_cases h0 : t.val % 8 = 0
  · have h1 : ¬t.val % 8 = 7 := by omega
    iapply (run_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : t.val % 8 = 7
    · iapply (run_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iapply (run_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ outs := fun t => by
  rw [bigSep_W0, bigSep_W0, defs₀_row]
  exact triple_restated (sound_body m c t) rfl .rfl fun _ => .rfl

set_option backward.isDefEq.respectTransparency.types false in
/-- The run of @main: the pipeline's input arrays end as they were, and every semaphore is at zero. -/
theorem run_main_quiescent : θ_run defs (onTc (τ := τ) (main (F := F))) (s₀ m ρ)
    (fun r => (Pipeline.RDat.FramePost (cfgs 0) (fun c => (dats m 0 c).toRForget outs) (V m)) r ∧ r.2.sem = fun _ => 0) :=
  Pipeline.θ_run_frame_track_forget_shared (Q' := _) cfgs (dats m) (0 : Fin 1) launch₀0 defs₀ Variants.none outs m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The argument arrays end unchanged. -/
theorem kept (r : PUnit × MemSt nD τ sig (Elt F)) (h : Pipeline.RDat.FramePost (cfgs 0) (fun c => (dats m 0 c).toRForget outs) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (Pipeline.RDat.FramePost.arr_in h c 4 rfl).trans ((A_eq m c 4).trans (V_main_arg2 m c)),
   (Pipeline.RDat.FramePost.arr_in h c 0 rfl).trans ((A_eq m c 0).trans (V_main_arg3 m c))⟩

end Cert.Kernel.Body

end
-- ==== Proof.Points.lean ====
/-
  What the runs of the kernel body are stated over: the two branch conditions as conditions on the grid point, the
  staging buffers of the seven windows and the two accumulators.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 1728 := Nat.lt_of_lt_of_eq t.isLt N_0
    have e0 : (grid0.coords t 0).val = t.val / 72 % 24 := Pipeline.Grid.coords_val t 0 (by decide) rfl
    have e1 : (grid0.coords t 1).val = t.val / 8 % 9 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 1728 := Nat.lt_of_lt_of_eq t.isLt N_0
    have e0 : (grid0.coords t 0).val = t.val / 72 % 24 := Pipeline.Grid.coords_val t 0 (by decide) rfl
    have e1 : (grid0.coords t 1).val = t.val / 8 % 9 := Pipeline.Grid.coords_val t 1 (by decide) rfl
    have e2 : (grid0.coords t 2).val = t.val / 1 % 8 := Pipeline.Grid.coords_val t 2 (by decide) rfl
    simp only [cond0_1, k0_cond2, e0, e1, e2]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S36x144 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2304 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x18 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2304 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2304 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x18 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x256 .f32 := Memref.whole cc0_scratch0
abbrev scM0_1 : Memref sig .tc .vmem S1024x256 .f32 := Memref.whole cc0_scratch1
/-- The scratch `arg10` the kernel carries between points, as a view: what it holds is stated through it. -/
abbrev VS0_0 : View sig .tc .vmem S1024x256 .f32 := scM0_0.view
/-- The scratch `arg11` the kernel carries between points, as a view: what it holds is stated through it. -/
abbrev VS0_1 : View sig .tc .vmem S1024x256 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.RunA.lean ====
/-
  The kernel body at the first contraction step of a tile.
-/
module

public import proofs.«01_k».proof.Proof.Points

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3080000 in
/-- The body at the first contraction step (the accumulators are zeroed first, nothing is written out): from whole input
    buffers holding `x0` … `x4`, it leaves the inputs and the two output buffers (`arg8`, `arg9`) as they were, and the
    accumulators (`arg10`, `arg11`) with the stores `LS0`, `LS1` made into them. -/
noncomputable def kernelRun0_A (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S36x144 .f32) (x1 : Vec F S1024x2304 .fp8e4m3) (x2 : Vec F S1x1024x18 .f32) (x3 : Vec F S256x2304 .fp8e4m3) (x4 : Vec F S256x2304 .fp8e4m3) :
    Σ' (LS0 : List (View.Piece (Elt F) S1024x256 .f32)), { LS1 : List (View.Piece (Elt F) S1024x256 .f32) //
      ∀ (y5 : Vec F S1024x256 .fp8e4m3) (y6 : Vec F S1024x18 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up_swiglu i arg3 harg3 arg4 harg4 arg5 harg5 arg6 harg6 arg7 harg7 arg8 harg8 arg9 harg9 arg10 harg10 arg11 harg11) K } := by
  refine ⟨?_, ?_, fun y5 y6 E K => ?run⟩
  case run =>
    simp only [cc0_gate_up_swiglu_eq_skeleton]; unfold cc0_gate_up_swiglu_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; isplitr; · ipureintro; exact hf6
      iexact H6
    isplitl [HS0]; · iexists _; iexact HS0
    iexists _; iexact HS1

end Cert.KernelIdeal.Body

end
-- ==== Proof.RunB.lean ====
/-
  The kernel body at a middle contraction step of a tile.
-/
module

public import proofs.«01_k».proof.Proof.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3056000 in
/-- The body at a middle contraction step (the accumulators hold `xs0`, `xs1`, nothing is written out): it leaves the
    inputs and the two output buffers (`arg8`, `arg9`) as they were, and the accumulators (`arg10`, `arg11`) with the
    stores `LS0`, `LS1` made into them. -/
noncomputable def kernelRun0_B (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S36x144 .f32) (x1 : Vec F S1024x2304 .fp8e4m3) (x2 : Vec F S1x1024x18 .f32) (x3 : Vec F S256x2304 .fp8e4m3) (x4 : Vec F S256x2304 .fp8e4m3) (xs0 : Vec F S1024x256 .f32) (xs1 : Vec F S1024x256 .f32) :
    Σ' (LS0 : List (View.Piece (Elt F) S1024x256 .f32)), { LS1 : List (View.Piece (Elt F) S1024x256 .f32) //
      ∀ (y5 : Vec F S1024x256 .fp8e4m3) (y6 : Vec F S1024x18 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up_swiglu i arg3 harg3 arg4 harg4 arg5 harg5 arg6 harg6 arg7 harg7 arg8 harg8 arg9 harg9 arg10 harg10 arg11 harg11) K } := by
  refine ⟨?_, ?_, fun y5 y6 E K => ?run⟩
  case run =>
    simp only [cc0_gate_up_swiglu_eq_skeleton]; unfold cc0_gate_up_swiglu_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0; obtain rfl := harg11.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact hf5
      iexact H5
    isplitl [H6]
    · iexists _; isplitr; · ipureintro; exact hf6
      iexact H6
    isplitl [HS0]; · iexists _; iexact HS0
    iexists _; iexact HS1

end Cert.KernelIdeal.Body

end
-- ==== Proof.RunC.lean ====
/-
  The kernel body at the last contraction step of a tile, where the tile is quantised and written out.
-/
module

public import proofs.«01_k».proof.Proof.RunB

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3156000 in
/-- The body at the last contraction step (the accumulators hold `xs0`, `xs1`, the scale output `arg9` holds `y6`): it
    leaves the inputs as they were, the codes output `arg8` with the stores `L5` made into it, the scale output `arg9` with
    the stores `L6`, and the accumulators (`arg10`, `arg11`) with the stores `LS0`, `LS1`. -/
noncomputable def kernelRun0_C (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S36x144 .f32) (x1 : Vec F S1024x2304 .fp8e4m3) (x2 : Vec F S1x1024x18 .f32) (x3 : Vec F S256x2304 .fp8e4m3) (x4 : Vec F S256x2304 .fp8e4m3) (xs0 : Vec F S1024x256 .f32) (xs1 : Vec F S1024x256 .f32) (y6 : Vec F S1024x18 .f32) :
    Σ' (L5 : List (View.Piece (Elt F) S1024x256 .fp8e4m3)) (L6 : List (View.Piece (Elt F) S1024x18 .f32)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y6 ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up_swiglu i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_gate_up_swiglu_eq_skeleton]; unfold cc0_gate_up_swiglu_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs0; obtain rfl := harg11.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    iexists _; iexact HS1

end Cert.KernelIdeal.Body

end
-- ==== Proof.Step.lean ====
/-
  What one contraction step of the kernel adds to an accumulator: the scaled products of the step's 2304 columns.
-/
module

public import proofs.«01_k».proof.Proof.Gen.KernelIdeal.Skeleton
public import Idealize.ShloMosaic.Lib.Pipeline.ValueKit

@[expose] public section

set_option maxRecDepth 16384

noncomputable section

namespace Cert.KernelIdeal.Step

open Cert.KernelIdeal Cert.KernelIdeal.Gen
open Idealize.ShloMosaic

theorem inb5 (g : Fin 18) : ∀ a, (![0, 0, g.val] : Fin 3 → Nat) a + S1x1024x1.size a ≤ S1x1024x18.size a := by
  revert g; decide

theorem inb4 (g : Fin 18) : ∀ a, (![0, 128 * g.val] : Fin 2 → Nat) a + S1024x128.size a ≤ S1024x2304.size a := by
  revert g; decide

theorem inb6 (b : Fin 2) (g : Fin 18) : ∀ a, (![128 * b.val, 128 * g.val] : Fin 2 → Nat) a + S128x128.size a ≤ S256x2304.size a := by
  revert b g; decide

/-- Group `g` of the activations' block: its 128 columns, each row scaled by the row's scale of the group. -/
def xp (x1 : FVec Ideal S1024x2304 .fp8e4m3) (x2 : FVec Ideal S1x1024x18 .f32) (g : Fin 18) : FVec Ideal S1024x128 .bf16 :=
  k0_pay22 (F := Ideal) (View.ld (Val := Elt Ideal) (e' := .f32) x2 (Rect.unit (s := S1x1024x18) ![0, 0, g.val] S1x1024x1.size (inb5 g)))
    (View.ld (Val := Elt Ideal) (e' := .fp8e4m3) x1 (Rect.unit (s := S1024x2304) ![0, 128 * g.val] S1024x128.size (inb4 g)))

/-- The scale of the weights' 128 by 128 piece `(b, g)` at a grid point. -/
def ws (i : grid0.Coords) (half : Fin 2) (x0 : FVec Ideal S36x144 .f32) (b : Fin 2) (g : Fin 18) : EReal :=
  View.ld (Val := Elt Ideal) (e' := .f32) x0 (Rect.unit (s := S36x144)
    (k0_off1 i (BitVec.ofNat 32 (18 * half.val)) (BitVec.ofNat 32 b.val) (BitVec.ofNat 32 g.val)) S1x1.size (k0_off1_inb i half b g))
    (Shape.Idx.first (s := S1x1) (by decide))

/-- The 128 by 128 piece `(b, g)` of the weights' block. -/
def wld (x3 : FVec Ideal S256x2304 .fp8e4m3) (b : Fin 2) (g : Fin 18) : FVec Ideal S128x128 .fp8e4m3 :=
  View.ld (Val := Elt Ideal) (e' := .fp8e4m3) x3 (Rect.unit (s := S256x2304) ![128 * b.val, 128 * g.val] S128x128.size (inb6 b g))

/-- Group `g` of the weights' block: its 128 columns, each half of the rows scaled by the half's scale. -/
def wp (i : grid0.Coords) (half : Fin 2) (x0 : FVec Ideal S36x144 .f32) (x3 : FVec Ideal S256x2304 .fp8e4m3) (g : Fin 18) :
    FVec Ideal S256x128 .bf16 :=
  k0_pay26 (F := Ideal) (ws i half x0 0 g) (wld x3 0 g) (ws i half x0 1 g) (wld x3 1 g)

/-- A scaled activation. -/
theorem xp_apply (x1 : FVec Ideal S1024x2304 .fp8e4m3) (x2 : FVec Ideal S1x1024x18 .f32) (g : Fin 18) (r : Fin 1024) (l : Fin 128) :
    xp x1 x2 g (ix2 r l) = x1 (ix2 r ⟨128 * g.val + l.val, by omega⟩) * x2 (ix3 0 r g) := by
  unfold xp
  generalize ha : View.ld (Val := Elt Ideal) (e' := .f32) x2 _ = a
  generalize hb : View.ld (Val := Elt Ideal) (e' := .fp8e4m3) x1 _ = b
  have e : k0_pay22 (F := Ideal) a b (ix2 r l) = b (ix2 r l) * a (ix3 0 r 0) := by
    simp only [k0_pay22, pointwise]
    rfl
  rw [e, ← ha, ← hb]
  congr 1
  · refine View.ld_unit_apply_of _ _ _ _ _ _ fun a => ?_
    fin_cases a <;> simp [ix2]
  · refine View.ld_unit_apply_of _ _ _ _ _ _ fun a => ?_
    fin_cases a <;> simp [ix3]

/-- The scale of the weights' piece `(b, g)`: the table's entry of the tile and contraction step. -/
theorem ws_eq (i : grid0.Coords) (half : Fin 2) (x0 : FVec Ideal S36x144 .f32) (b : Fin 2) (g : Fin 18) (j : Fin 9) (k : Fin 8)
    (hj : (i 1).val = j.val) (hk : (i 2).val = k.val) :
    ws i half x0 b g = x0 (ix2 ⟨18 * half.val + 2 * j.val + b.val, by omega⟩ ⟨18 * k.val + g.val, by omega⟩) := by
  unfold ws
  refine View.ld_unit_apply_of _ _ _ _ _ _ fun a => ?_
  have e0 : k0_off1 i (BitVec.ofNat 32 (18 * half.val)) (BitVec.ofNat 32 b.val) (BitVec.ofNat 32 g.val) 0 = 18 * half.val + 2 * j.val + b.val := by
    rw [k0_off1_eq]; simp [hj]
  have e1 : k0_off1 i (BitVec.ofNat 32 (18 * half.val)) (BitVec.ofNat 32 b.val) (BitVec.ofNat 32 g.val) 1 = 18 * k.val + g.val := by
    rw [k0_off1_eq]; simp [hk]
  fin_cases a
  · exact e0.symm
  · exact e1.symm

/-- A scaled weight. -/
theorem wp_apply (i : grid0.Coords) (half : Fin 2) (x0 : FVec Ideal S36x144 .f32) (x3 : FVec Ideal S256x2304 .fp8e4m3) (g : Fin 18)
    (c : Fin 256) (l : Fin 128) (j : Fin 9) (k : Fin 8) (hj : (i 1).val = j.val) (hk : (i 2).val = k.val) :
    wp i half x0 x3 g (ix2 c l) = x3 (ix2 c ⟨128 * g.val + l.val, by omega⟩)
      * x0 (ix2 ⟨18 * half.val + 2 * j.val + c.val / 128, by omega⟩ ⟨18 * k.val + g.val, by omega⟩) := by
  have hw : ∀ (b : Fin 2) (p : Fin 128), wld x3 b g (ix2 p l) = x3 (ix2 ⟨128 * b.val + p.val, by omega⟩ ⟨128 * g.val + l.val, by omega⟩) := by
    intro b p
    unfold wld
    refine View.ld_unit_apply_of _ _ _ _ _ _ fun a => ?_
    fin_cases a <;> simp [ix2]
  unfold wp k0_pay26
  by_cases h : c.val < 128
  · rw [concatenate_pair_apply_left (s₁ := S128x128) (s₂ := S128x128) (t := S256x128) 0 _ _ _ (ix2 c l) rfl (ix2 ⟨c.val, h⟩ l) (by
      intro b; fin_cases b <;> rfl)]
    simp only [pointwise]
    rw [hw, ws_eq i half x0 0 g j k hj hk]
    congr 3 <;> ext <;> simp <;> omega
  · rw [concatenate_pair_apply_right (s₁ := S128x128) (s₂ := S128x128) (t := S256x128) 0 _ _ _ (ix2 c l) rfl rfl (ix2 ⟨c.val - 128, by omega⟩ l) (by
      intro b hb; fin_cases b
      · exact absurd rfl hb
      · rfl) (by show c.val - 128 + 128 = c.val; omega)]
    simp only [pointwise]
    rw [hw, ws_eq i half x0 1 g j k hj hk]
    congr 3 <;> ext <;> simp <;> omega

/-- The activations' block, its groups side by side. -/
theorem xcat_apply (f : Fin 18 → FVec Ideal S1024x128 .bf16) (r : Fin 1024) (q : Fin 2304) :
    k0_pay98 (F := Ideal) (f 0) (f 1) (f 2) (f 3) (f 4) (f 5) (f 6) (f 7) (f 8) (f 9) (f 10) (f 11) (f 12) (f 13) (f 14) (f 15) (f 16) (f 17)
        (ix2 r q) = f ⟨q.val / 128, by omega⟩ (ix2 r ⟨q.val % 128, by omega⟩) :=
  concatenate_ofFn_apply (t := S1024x2304) (s₁ := S1024x128) 1 f concatenates_S1024x128_S1024x128_S1024x128_S1024x128_S1024x128_S1024x128_S1024x128_S1024x128_S1024x128_S1024x128_S1024x128_S1024x128_S1024x128_S1024x128_S1024x128_S1024x128_S1024x128_S1024x128_S1024x2304_d1
    rfl 128 rfl (ix2 r q) ⟨q.val / 128, by omega⟩ rfl (ix2 r ⟨q.val % 128, by omega⟩) rfl (by
      intro b hb; fin_cases b
      · rfl
      · exact absurd rfl hb)

/-- The product of two blocks given by their groups, added to an accumulator. -/
theorem pay99_apply (f : Fin 18 → FVec Ideal S1024x128 .bf16) (w : Fin 18 → FVec Ideal S256x128 .bf16) (acc : FVec Ideal S1024x256 .f32)
    (r : Fin 1024) (c : Fin 256) :
    k0_pay99 (F := Ideal) (f 0) (w 0) (f 1) (w 1) (f 2) (w 2) (f 3) (w 3) (f 4) (w 4) (f 5) (w 5) (f 6) (w 6) (f 7) (w 7) (f 8) (w 8) (f 9) (w 9)
        (f 10) (w 10) (f 11) (w 11) (f 12) (w 12) (f 13) (w 13) (f 14) (w 14) (f 15) (w 15) (f 16) (w 16) (f 17) (w 17) acc (ix2 r c)
      = acc (ix2 r c) + ∑ q : Fin 2304, f ⟨q.val / 128, by omega⟩ (ix2 r ⟨q.val % 128, by omega⟩)
          * w ⟨q.val / 128, by omega⟩ (ix2 c ⟨q.val % 128, by omega⟩) := by
  have hw : ∀ q : Fin 2304, concatenate S256x2304 1 (List.ofFn fun n : Fin 18 => (⟨S256x128, w n⟩ : (s : Shape) × (s.Idx → EReal)))
      concatenates_S256x128_S256x128_S256x128_S256x128_S256x128_S256x128_S256x128_S256x128_S256x128_S256x128_S256x128_S256x128_S256x128_S256x128_S256x128_S256x128_S256x128_S256x128_S256x2304_d1 (ix2 c q) = w ⟨q.val / 128, by omega⟩ (ix2 c ⟨q.val % 128, by omega⟩) := fun q =>
    concatenate_ofFn_apply (t := S256x2304) (s₁ := S256x128) 1 w _
      rfl 128 rfl (ix2 c q) ⟨q.val / 128, by omega⟩ rfl (ix2 c ⟨q.val % 128, by omega⟩) rfl (by
        intro b hb; fin_cases b
        · rfl
        · exact absurd rfl hb)
  have hx := xcat_apply f r
  unfold k0_pay99
  generalize k0_pay98 (F := Ideal) _ _ _ _ _ _ _ _ _ _ _ _ _ _ _ _ _ _ = X at hx ⊢
  change shapeCast S1024x256 (addf acc (matmul dot_S1024x2304_S256x2304_S1024x256_1_1_0_0_n_n none X (concatenate S256x2304 1 (List.ofFn fun n : Fin 18 => (⟨S256x128, w n⟩ : (s : Shape) × (s.Idx → EReal)))
      concatenates_S256x128_S256x128_S256x128_S256x128_S256x128_S256x128_S256x128_S256x128_S256x128_S256x128_S256x128_S256x128_S256x128_S256x128_S256x128_S256x128_S256x128_S256x128_S256x2304_d1) (constant S1024x256 .f32 0x00000000#32))) _ _ = _
  generalize concatenate S256x2304 1 _ _ = W at hw ⊢
  simp only [pointwise]
  simp only [hx, hw]
  simp [Ideal.ofBits_zero_f32]

/-- An accumulator after one contraction step, from what it held before. -/
def acc1 (i : grid0.Coords) (half : Fin 2) (x0 : FVec Ideal S36x144 .f32) (x1 : FVec Ideal S1024x2304 .fp8e4m3) (x2 : FVec Ideal S1x1024x18 .f32)
    (x3 : FVec Ideal S256x2304 .fp8e4m3) (acc : FVec Ideal S1024x256 .f32) : FVec Ideal S1024x256 .f32 :=
  k0_pay99 (F := Ideal) (xp x1 x2 0) (wp i half x0 x3 0) (xp x1 x2 1) (wp i half x0 x3 1) (xp x1 x2 2) (wp i half x0 x3 2) (xp x1 x2 3) (wp i half x0 x3 3) (xp x1 x2 4) (wp i half x0 x3 4) (xp x1 x2 5) (wp i half x0 x3 5) (xp x1 x2 6) (wp i half x0 x3 6) (xp x1 x2 7) (wp i half x0 x3 7) (xp x1 x2 8) (wp i half x0 x3 8) (xp x1 x2 9) (wp i half x0 x3 9) (xp x1 x2 10) (wp i half x0 x3 10) (xp x1 x2 11) (wp i half x0 x3 11) (xp x1 x2 12) (wp i half x0 x3 12) (xp x1 x2 13) (wp i half x0 x3 13) (xp x1 x2 14) (wp i half x0 x3 14) (xp x1 x2 15) (wp i half x0 x3 15) (xp x1 x2 16) (wp i half x0 x3 16) (xp x1 x2 17) (wp i half x0 x3 17) acc

/-- The scaled product of one column of the contraction, at a row of the tile and one of its output columns. -/
def term (x0 : FVec Ideal S36x144 .f32) (x1 : FVec Ideal S1024x2304 .fp8e4m3) (x2 : FVec Ideal S1x1024x18 .f32)
    (x3 : FVec Ideal S256x2304 .fp8e4m3) (half : Fin 2) (j : Fin 9) (k : Fin 8) (r : Fin 1024) (c : Fin 256) (q : Fin 2304) : EReal :=
  x1 (ix2 r q) * x2 (ix3 0 r ⟨q.val / 128, by omega⟩)
    * (x3 (ix2 c q) * x0 (ix2 ⟨18 * half.val + 2 * j.val + c.val / 128, by omega⟩ ⟨18 * k.val + q.val / 128, by omega⟩))

/-- An accumulator after one contraction step: what it held before and the step's scaled products. -/
theorem acc1_apply (i : grid0.Coords) (half : Fin 2) (x0 : FVec Ideal S36x144 .f32) (x1 : FVec Ideal S1024x2304 .fp8e4m3)
    (x2 : FVec Ideal S1x1024x18 .f32) (x3 : FVec Ideal S256x2304 .fp8e4m3) (acc : FVec Ideal S1024x256 .f32)
    (j : Fin 9) (k : Fin 8) (hj : (i 1).val = j.val) (hk : (i 2).val = k.val) (r : Fin 1024) (c : Fin 256) :
    acc1 i half x0 x1 x2 x3 acc (ix2 r c) = acc (ix2 r c) + ∑ q : Fin 2304, term x0 x1 x2 x3 half j k r c q := by
  unfold acc1
  rw [pay99_apply (xp x1 x2) (wp i half x0 x3) acc r c]
  refine congrArg _ (Finset.sum_congr rfl fun q _ => ?_)
  rw [xp_apply, wp_apply i half x0 x3 _ c _ j k hj hk]
  have e : (⟨128 * (q.val / 128) + q.val % 128, by omega⟩ : Fin 2304) = q := Fin.ext (by simp; omega)
  simp only [term, e]

end Cert.KernelIdeal.Step

end
-- ==== Proof.Quant.lean ====
/-
  The power-of-two quantiser on extended reals: the exponent the kernel finds by bisection over the powers of two is the
  greatest exponent whose power of two does not exceed the scaled maximum, which is how the reference states it.
-/
module

public import Idealize.ShloMosaic.PureOps.Ideal
public import Idealize.ShloMosaic.PureOps.Ideal.Laws
public import Idealize.ShloMosaic.Lib.Tactic
public import Mathlib.Algebra.Order.Group.Multiset

@[expose] public section

noncomputable section

namespace Cert.Quant

open Idealize.ShloMosaic

/-- The extended real whose f32 word is the exponent field `n` alone: `2^(n-127)` for `1 ≤ n ≤ 254`. -/
def pw (n : ℕ) : EReal := Ideal.ofBits .f32 (BitVec.ofNat 32 n <<< 23)

theorem pw_toNat {n : ℕ} (h : n < 256) : (BitVec.ofNat 32 n <<< 23).toNat = n * 2 ^ 23 := by
  rw [BitVec.toNat_shiftLeft, BitVec.toNat_ofNat, Nat.shiftLeft_eq]; omega

/-- The sign, exponent and fraction fields of such a word. -/
theorem pw_bits {n : ℕ} (h : n < 256) : ((BitVec.ofNat 32 n <<< 23).extractLsb' 31 1 == 1#1) = false
    ∧ ((BitVec.ofNat 32 n <<< 23).extractLsb' 23 8).toNat = n
    ∧ ((BitVec.ofNat 32 n <<< 23).extractLsb' 0 23).toNat = 0 := by
  refine ⟨?_, ?_, ?_⟩
  · rw [beq_eq_false_iff_ne]
    intro hc
    have := congrArg BitVec.toNat hc
    rw [BitVec.extractLsb'_toNat, pw_toNat h, Nat.shiftRight_eq_div_pow] at this
    simp at this
    omega
  · rw [BitVec.extractLsb'_toNat, pw_toNat h, Nat.shiftRight_eq_div_pow]; omega
  · rw [BitVec.extractLsb'_toNat, pw_toNat h, Nat.shiftRight_eq_div_pow]; omega

/-- A field strictly between `0` and `255` is the power of two `2^(n-127)`. -/
theorem pw_mid {n : ℕ} (h0 : 0 < n) (h1 : n < 255) : pw n = (((2 : ℝ) ^ ((n : ℤ) - 127) : ℝ) : EReal) := by
  obtain ⟨a, b, c⟩ := pw_bits (n := n) (by omega)
  show Ideal.ieee 8 23 (BitVec.ofNat 32 n <<< 23) = _
  generalize BitVec.ofNat 32 n <<< 23 = w at a b c
  have e1 : ¬ n = 2 ^ 8 - 1 := by omega
  have e2 : ¬ n = 0 := by omega
  unfold Ideal.ieee
  simp only [Nat.reduceAdd, a, b, c, e1, e2, if_false, Bool.false_eq_true, Nat.add_zero, one_mul]
  congr 1
  rw [Nat.cast_pow, Nat.cast_ofNat]
  rw [← zpow_natCast, ← zpow_add₀ (by norm_num)]
  congr 1
  push_cast; ring

/-- The all-ones field is `⊤`. -/
theorem pw_top : pw 255 = ⊤ := by
  obtain ⟨a, b, c⟩ := pw_bits (n := 255) (by omega)
  show Ideal.ieee 8 23 (BitVec.ofNat 32 255 <<< 23) = _
  generalize BitVec.ofNat 32 255 <<< 23 = w at a b c
  have e1 : 255 = 2 ^ 8 - 1 := by norm_num
  unfold Ideal.ieee
  simp only [Nat.reduceAdd, a, b, c, ← e1, if_true, Bool.false_eq_true, if_false]

/-- The powers of two grow with the field. -/
theorem pw_mono {a b : ℕ} (h0 : 0 < a) (hab : a ≤ b) (hb : b ≤ 255) : pw a ≤ pw b := by
  rcases Nat.eq_or_lt_of_le hb with rfl | hb
  · rw [pw_top]; exact le_top
  · rw [pw_mid h0 (by omega), pw_mid (by omega) hb, EReal.coe_le_coe_iff]
    exact zpow_le_zpow_right₀ (by norm_num) (by omega)

/-- One step of the bisection: the bit `b` is set when the power of two of the raised field does not exceed `t`. -/
def step (t : EReal) (f b : ℕ) : ℕ := if t < pw (f + b) then f else f + b

/-- The bisection over the eight bits of the field. -/
def field (t : EReal) : ℕ :=
  step t (step t (step t (step t (step t (step t (step t (step t 0 128) 64) 32) 16) 8) 4) 2) 1

/-- What holds between two steps: the answer is at least `f` and less than `f + w`. -/
def Between (t : EReal) (f w : ℕ) : Prop := f + w ≤ 256 ∧ (f = 0 ∨ pw f ≤ t) ∧ (f + w = 256 ∨ t < pw (f + w))

theorem between_step {t : EReal} {f b : ℕ} (h : Between t f (2 * b)) : Between t (step t f b) b := by
  obtain ⟨h1, h2, h3⟩ := h
  unfold step
  split_ifs with hlt
  · exact ⟨by omega, h2, Or.inr hlt⟩
  · refine ⟨by omega, Or.inr (not_lt.mp hlt), ?_⟩
    rw [show f + b + b = f + 2 * b by omega]; exact h3

/-- The bisection answers `0`, or a field whose power of two does not exceed `t`, and the next one's does. -/
theorem field_between (t : EReal) : Between t (field t) 1 := by
  unfold field
  exact between_step (between_step (between_step (between_step (between_step (between_step (between_step (between_step
    ⟨by norm_num, Or.inl rfl, Or.inl rfl⟩)))))))

theorem field_le (t : EReal) : field t ≤ 255 := by have := (field_between t).1; omega

/-- A field's power of two does not exceed `t` exactly when the field is at most the bisection's answer. -/
theorem pw_le_iff (t : EReal) {c : ℕ} (h0 : 0 < c) (h1 : c ≤ 255) : pw c ≤ t ↔ c ≤ field t := by
  obtain ⟨hb, h2, h3⟩ := field_between t
  constructor
  · intro h
    by_contra hc
    rcases h3 with h3 | h3
    · omega
    · exact absurd (lt_of_lt_of_le h3 ((pw_mono (by omega) (by omega) h1).trans h)) (lt_irrefl _)
  · intro h
    rcases h2 with h2 | h2
    · omega
    · exact (pw_mono h0 h (by omega)).trans h2

/-- The field of the power of two the kernel scales back by: `1` at a zero maximum, else `2^e`, `e` one more than the
    greatest exponent found, capped. -/
def up (t : EReal) : ℕ := if min (field t) 252 = 0 then 127 else min (field t) 252 + 1

/-- The field of the power of two the kernel scales down by: the inverse of `up`'s. -/
def down (t : EReal) : ℕ := if min (field t) 252 = 0 then 127 else 253 - min (field t) 252

/-- The group's scale. -/
def scale (t : EReal) : EReal := pw (up t)

/-- The inverse of the group's scale. -/
def inv (t : EReal) : EReal := pw (down t)

/-- The reference's exponent: `0` below `2^-126`, else the greatest `k + 1` over the exponents `k` from `-126` to `125`
    with `2^k ≤ t`. -/
def refExp (t : EReal) : EReal :=
  if t < pw 1 then 0
  else Finset.univ.sup fun k : Fin 252 =>
    if Ideal.exp2 ((((k.val : ℤ) - 126 : ℤ) : ℝ) : EReal) ≤ t then (((((k.val : ℤ) - 126 : ℤ) : ℝ) : EReal) + 1) else ⊥

theorem exp2_int (z : ℤ) : Ideal.exp2 (((z : ℤ) : ℝ) : EReal) = (((2 : ℝ) ^ z : ℝ) : EReal) := by
  show ((Real.rpow 2 (z : ℝ) : ℝ) : EReal) = _
  congr 1
  exact Real.rpow_intCast 2 z

/-- The reference's exponent as the bisection's field: `0`, or the capped field less `126`. -/
theorem refExp_eq (t : EReal) :
    refExp t = ((((up t : ℤ) - 127 : ℤ) : ℝ) : EReal) := by
  unfold refExp up
  by_cases h : field t = 0
  · have h1 : t < pw 1 := by
      by_contra hc
      have := (pw_le_iff t (c := 1) (by norm_num) (by norm_num)).mp (not_lt.mp hc)
      omega
    rw [if_pos h1, if_pos (by rw [h]; rfl)]
    norm_num
  · have h1 : ¬ t < pw 1 := not_lt.mpr ((pw_le_iff t (c := 1) (by norm_num) (by norm_num)).mpr (by omega))
    rw [if_neg h1, if_neg (by omega)]
    set g := min (field t) 252 with hg
    have hcond : ∀ k : Fin 252, Ideal.exp2 ((((k.val : ℤ) - 126 : ℤ) : ℝ) : EReal) ≤ t ↔ k.val + 1 ≤ g := by
      intro k
      have hk := k.isLt
      rw [exp2_int, show ((k.val : ℤ) - 126) = ((k.val + 1 : ℕ) : ℤ) - 127 by push_cast; ring,
        ← pw_mid (by omega) (by omega), pw_le_iff t (by omega) (by omega)]
      omega
    have hval : ∀ k : Fin 252, ((((k.val : ℤ) - 126 : ℤ) : ℝ) : EReal) + 1 = ((((k.val : ℤ) - 125 : ℤ) : ℝ) : EReal) := by
      intro k
      rw [← EReal.coe_one, ← EReal.coe_add]
      congr 1
      push_cast; ring
    apply le_antisymm
    · refine Finset.sup_le fun k _ => ?_
      have hk' := k.isLt
      split_ifs with hk
      · rw [hval, EReal.coe_le_coe_iff, Int.cast_le]
        have := (hcond k).mp hk
        push_cast; omega
      · exact bot_le
    · have hgk : g - 1 < 252 := by omega
      refine le_trans ?_ (Finset.le_sup (Finset.mem_univ (⟨g - 1, hgk⟩ : Fin 252)))
      rw [if_pos ((hcond _).mpr (by show g - 1 + 1 ≤ g; omega)), hval, EReal.coe_le_coe_iff, Int.cast_le]
      push_cast
      omega

theorem up_pos (t : EReal) : 0 < up t := by unfold up; split_ifs <;> omega

theorem up_lt (t : EReal) : up t < 254 := by unfold up; split_ifs <;> omega

theorem down_add_up (t : EReal) : down t + up t = 254 := by unfold down up; split_ifs <;> omega

/-- `2` to the reference's exponent is the kernel's scale. -/
theorem exp2_refExp (t : EReal) : Ideal.exp2 (refExp t) = scale t := by
  rw [refExp_eq, exp2_int]; exact (pw_mid (up_pos t) ((up_lt t).trans (by norm_num))).symm

/-- `2` to minus the reference's exponent is the kernel's inverse scale. -/
theorem exp2_neg_refExp (t : EReal) : Ideal.exp2 (0 - refExp t) = inv t := by
  have hd := down_add_up t
  have hu := up_lt t
  have hu0 := up_pos t
  have hd0 : 0 < down t := by omega
  have hd1 : down t < 255 := by omega
  rw [refExp_eq, zero_sub, ← EReal.coe_neg, ← Int.cast_neg, exp2_int]
  unfold inv
  rw [pw_mid hd0 hd1]
  have e : (down t : ℤ) - 127 = -((up t : ℤ) - 127) := by omega
  rw [e]

/-! ## The kernel's words -/

/-- One step of the bisection on words, as the kernel computes it. -/
def wstep (t : EReal) (f b : BitVec 32) : BitVec 32 :=
  Scalar.select (Ideal.cmp .olt t (Ideal.ofBits .f32 (IntOp.shli .vector (IntOp.addi f b) 23#32))) f (IntOp.addi f b)

/-- The bisection on words. -/
def wfield (t : EReal) : BitVec 32 :=
  wstep t (wstep t (wstep t (wstep t (wstep t (wstep t (wstep t (wstep t 0#32 128#32) 64#32) 32#32) 16#32) 8#32) 4#32) 2#32) 1#32

/-- The exponent on words: the field with what belongs to the large maxima alone, capped, less `126`, or `0`. -/
def wexp (t : EReal) : BitVec 32 :=
  let m := Scalar.select (Ideal.cmp .one ((t + t + (t + t)) * Ideal.ofBits .f32 0x00000000#32) (Ideal.ofBits .f32 0x00000000#32))
    (wfield t) (IntOp.minsi (wfield t) 252#32)
  Scalar.select (IntOp.cmpi .eq m 0#32) 0#32 (IntOp.subi m 126#32)

theorem shl23 (x : BitVec 32) : IntOp.shli .vector x 23#32 = x <<< 23 := rfl

theorem wstep_eq (t : EReal) (f b : ℕ) : wstep t (BitVec.ofNat 32 f) (BitVec.ofNat 32 b) = BitVec.ofNat 32 (step t f b) := by
  unfold wstep step
  rw [shl23, show IntOp.addi (BitVec.ofNat 32 f) (BitVec.ofNat 32 b) = BitVec.ofNat 32 (f + b) from (BitVec.ofNat_add f b).symm]
  show (if BitVec.ofBool (decide (t < pw (f + b))) = 1 then _ else _) = _
  by_cases h : t < pw (f + b) <;> simp [h]

theorem wfield_eq (t : EReal) : wfield t = BitVec.ofNat 32 (field t) := by
  unfold wfield field
  rw [show (0#32) = BitVec.ofNat 32 0 from rfl, show (128#32) = BitVec.ofNat 32 128 from rfl,
    show (64#32) = BitVec.ofNat 32 64 from rfl, show (32#32) = BitVec.ofNat 32 32 from rfl,
    show (16#32) = BitVec.ofNat 32 16 from rfl, show (8#32) = BitVec.ofNat 32 8 from rfl,
    show (4#32) = BitVec.ofNat 32 4 from rfl, show (2#32) = BitVec.ofNat 32 2 from rfl,
    show (1#32) = BitVec.ofNat 32 1 from rfl]
  rw [wstep_eq, wstep_eq, wstep_eq, wstep_eq, wstep_eq, wstep_eq, wstep_eq, wstep_eq]

theorem wmin_eq {f : ℕ} (h : f ≤ 255) : IntOp.minsi (BitVec.ofNat 32 f) 252#32 = BitVec.ofNat 32 (min f 252) := by
  unfold IntOp.minsi
  have e : (BitVec.ofNat 32 f).slt 252#32 = decide (f < 252) := by
    rw [BitVec.slt_eq_decide, BitVec.toInt_eq_toNat_of_lt (by rw [BitVec.toNat_ofNat]; omega), BitVec.toNat_ofNat,
      Nat.mod_eq_of_lt (by omega : f < 2 ^ 32)]
    rw [decide_eq_decide]
    show (f : ℤ) < 252 ↔ _
    omega
  rw [e]
  by_cases hf : f < 252
  · simp [hf, Nat.min_eq_left hf.le]
  · simp [hf, Nat.min_eq_right (not_lt.mp hf)]

theorem ofBits_zero : Ideal.ofBits .f32 0x00000000#32 = 0 := Ideal.ofBits_zero_f32

/-- The exponent word: `0`, or the capped field less `126`. -/
theorem wexp_eq (t : EReal) :
    wexp t = if min (field t) 252 = 0 then 0#32 else BitVec.ofNat 32 (min (field t) 252) - 126#32 := by
  unfold wexp
  rw [ofBits_zero, mul_zero, wfield_eq, wmin_eq (field_le t)]
  have h1 : Ideal.cmp .one (0 : EReal) 0 = 0#1 := by unfold Ideal.cmp; simp
  rw [h1]
  have hm : min (field t) 252 < 256 := by omega
  generalize min (field t) 252 = g at hm
  show Scalar.select (IntOp.cmpi .eq (BitVec.ofNat 32 g) 0#32) 0#32 (BitVec.ofNat 32 g - 126#32) = _
  have e : (BitVec.ofNat 32 g == 0#32) = decide (g = 0) := by
    rw [Bool.eq_iff_iff, beq_iff_eq, decide_eq_true_iff, ← BitVec.toNat_inj, BitVec.toNat_ofNat, Nat.mod_eq_of_lt (by omega)]
    rfl
  unfold IntOp.cmpi Scalar.select
  simp only [e]
  by_cases hg : g = 0 <;> simp [hg]

/-- The word the kernel reads as the scale. -/
theorem wscale_eq (t : EReal) :
    Ideal.ofBits .f32 (IntOp.shli .vector (IntOp.addi (wexp t) 127#32) 23#32) = scale t := by
  rw [shl23, wexp_eq]
  unfold scale pw up
  congr 2
  have hm : min (field t) 252 < 256 := by omega
  generalize min (field t) 252 = g at hm
  show (if g = 0 then 0#32 else BitVec.ofNat 32 g - 126#32) + 127#32 = _
  apply BitVec.eq_of_toNat_eq
  split_ifs <;> simp only [BitVec.toNat_add, BitVec.toNat_sub, BitVec.toNat_ofNat] <;> omega

/-- The word the kernel reads as the inverse scale. -/
theorem winv_eq (t : EReal) :
    Ideal.ofBits .f32 (IntOp.shli .vector (IntOp.subi 127#32 (wexp t)) 23#32) = inv t := by
  rw [shl23, wexp_eq]
  unfold inv pw down
  congr 2
  have hm : min (field t) 252 < 253 := by omega
  generalize min (field t) 252 = g at hm
  show 127#32 - (if g = 0 then 0#32 else BitVec.ofNat 32 g - 126#32) = _
  apply BitVec.eq_of_toNat_eq
  split_ifs <;> simp only [BitVec.toNat_add, BitVec.toNat_sub, BitVec.toNat_ofNat] <;> omega

end Cert.Quant

end
-- ==== Proof.Tile.lean ====
/-
  What the kernel's last contraction step computes from the two accumulators of a tile: the gated product, each row's
  maximum over a group of 128 columns, and the group's codes and scale.
-/
module

public import proofs.«01_k».proof.Proof.Quant
public import proofs.«01_k».proof.Proof.Gen.KernelIdeal.Skeleton
public import Idealize.ShloMosaic.Lib.Pipeline.ValueKit

@[expose] public section

set_option maxRecDepth 16384

noncomputable section

namespace Cert.KernelIdeal.Tile

open Cert.KernelIdeal Cert.KernelIdeal.Gen Cert.Quant
open Idealize.ShloMosaic

/-- The gated product of one gate and one up value: `gate * sigmoid gate * up`. -/
def gated (g u : EReal) : EReal := g * Ideal.logistic g * u

/-- A group's scaled maximum: the greatest magnitude times the constant nearest `1/448`. -/
def amax (h : Fin 128 → EReal) : EReal := Finset.univ.fold max (Ideal.ofBits .f32 0xFF800000#32) (fun l => max (h l) (-(h l))) * Ideal.ofBits .f32 0x3B124925#32

/-- A value's code: scaled down by the group's power of two and clipped. -/
def code (t h : EReal) : EReal :=
  min (Ideal.ofBits .f32 0x43E00000#32) (max (Ideal.ofBits .f32 0xC3E00000#32) (h * inv t))

/-- The gated product's elements. -/
theorem pay2_apply (a b : FVec Ideal S1024x256 .f32) (j : S1024x256.Idx) :
    k0_pay2 (F := Ideal) a b j = gated (a j) (b j) := rfl

/-- The first group's columns of the gated product. -/
theorem pay3_apply (a b : FVec Ideal S1024x256 .f32) (r : Fin 1024) (l : Fin 128) :
    k0_pay3 (F := Ideal) a b (ix2 r l) = gated (a (ix2 r ⟨l.val, by omega⟩)) (b (ix2 r ⟨l.val, by omega⟩)) := by
  simp [k0_pay3, pointwise, pay2_apply]

/-- The second group's columns of the gated product. -/
theorem pay11_apply (h : FVec Ideal S1024x256 .f32) (r : Fin 1024) (l : Fin 128) :
    k0_pay11 (F := Ideal) h (ix2 r l) = h (ix2 r ⟨128 + l.val, by omega⟩) := by
  simp [k0_pay11, pointwise]

/-- The first group's scaled maximum in row `r`. -/
theorem pay4_apply (a b : FVec Ideal S1024x256 .f32) (r : Fin 1024) (z : Fin 1) :
    k0_pay4 (F := Ideal) a b (ix2 r z)
      = amax fun l => gated (a (ix2 r ⟨l.val, by omega⟩)) (b (ix2 r ⟨l.val, by omega⟩)) := by
  simp only [k0_pay4, pointwise]
  refine congrArg (· * _) (congrArg (fun f => Finset.fold max _ f Finset.univ) (funext fun l => ?_))
  exact (congrArg (fun x => max x (-x)) (pay3_apply a b r l))

/-- The second group's scaled maximum in row `r`. -/
theorem pay12_apply (h : FVec Ideal S1024x256 .f32) (r : Fin 1024) (z : Fin 1) :
    k0_pay12 (F := Ideal) h (ix2 r z) = amax fun l => h (ix2 r ⟨128 + l.val, by omega⟩) := by
  simp only [k0_pay12, pointwise]
  refine congrArg (· * _) (congrArg (fun f => Finset.fold max _ f Finset.univ) (funext fun l => ?_))
  exact (congrArg (fun x => max x (-x)) (pay11_apply h r l))

/-- One step of the bisection, on every row's scaled maximum. -/
def vstep (t : FVec Ideal S1024x1 .f32) (f : IVec S1024x1 32) (b : BitVec 32) : IVec S1024x1 32 :=
  select (cmpf .olt t (bitcastToFloat .f32 (shli (addi f (broadcast S1024x1 b)) (broadcast S1024x1 23#32)))) f
    (addi f (broadcast S1024x1 b))

/-- The exponent words from the rows' fields. -/
def vexp (t : FVec Ideal S1024x1 .f32) (f : IVec S1024x1 32) : IVec S1024x1 32 :=
  let m := select (cmpf .one (mulf (addf (addf t t) (addf t t)) (broadcast S1024x1 (Scalar.ofBits .f32 0x00000000#32)))
      (broadcast S1024x1 (Scalar.ofBits .f32 0x00000000#32))) f (minsi f (broadcast S1024x1 252#32))
  select (cmpi .eq m (broadcast S1024x1 0#32)) (broadcast S1024x1 0#32) (subi m (broadcast S1024x1 126#32))

theorem vstep_apply (t : FVec Ideal S1024x1 .f32) (f : IVec S1024x1 32) (b : BitVec 32) (j : S1024x1.Idx) :
    vstep t f b j = wstep (t j) (f j) b := rfl

/-- The whole bisection, on every row. -/
def vfield (t : FVec Ideal S1024x1 .f32) : IVec S1024x1 32 :=
  vstep t (vstep t (vstep t (vstep t (vstep t (vstep t (vstep t (vstep t (broadcast S1024x1 0#32) 128#32) 64#32) 32#32) 16#32)
    8#32) 4#32) 2#32) 1#32

theorem vfield_apply (t : FVec Ideal S1024x1 .f32) (j : S1024x1.Idx) : vfield t j = wfield (t j) := by
  unfold vfield wfield
  simp only [vstep_apply]
  rfl

theorem vexp_apply (t : FVec Ideal S1024x1 .f32) (j : S1024x1.Idx) : vexp t (vfield t) j = wexp (t j) := by
  have h : ∀ (f : IVec S1024x1 32) (w : BitVec 32), f j = w → vexp t f j =
      let m := Scalar.select (Ideal.cmp .one ((t j + t j + (t j + t j)) * Ideal.ofBits .f32 0x00000000#32)
        (Ideal.ofBits .f32 0x00000000#32)) w (IntOp.minsi w 252#32)
      Scalar.select (IntOp.cmpi .eq m 0#32) 0#32 (IntOp.subi m 126#32) := by
    intro f w hw; subst hw; rfl
  exact h _ _ (vfield_apply t j)

/-- The first group's exponent words are the bisection's. -/
theorem pay7_eq (a b : FVec Ideal S1024x256 .f32) :
    k0_pay7 (F := Ideal) (k0_pay4 a b) (k0_pay5 (F := Ideal) a b) (k0_pay6 (F := Ideal) a b) 23#32
      = vexp (k0_pay4 (F := Ideal) a b) (vfield (k0_pay4 (F := Ideal) a b)) := by
  have h5 : k0_pay5 (F := Ideal) a b = vstep (k0_pay4 (F := Ideal) a b) (vstep (k0_pay4 (F := Ideal) a b) (vstep (k0_pay4 (F := Ideal) a b)
      (vstep (k0_pay4 (F := Ideal) a b) (broadcast S1024x1 0#32) 128#32) 64#32) 32#32) 16#32 := by unfold k0_pay5; rfl
  have h6 : k0_pay6 (F := Ideal) a b = addi (k0_pay5 (F := Ideal) a b) (broadcast S1024x1 8#32) := rfl
  rw [h6, h5]
  generalize k0_pay4 (F := Ideal) a b = t
  unfold k0_pay7 vfield
  rfl

/-- The second group's exponent words are the bisection's. -/
theorem pay17_eq (h : FVec Ideal S1024x256 .f32) :
    k0_pay17 (F := Ideal) (k0_pay15 (F := Ideal) (k0_pay12 h) (k0_pay13 (F := Ideal) h) (k0_pay14 (F := Ideal) h) 23#32)
        (k0_pay16 (F := Ideal) (k0_pay12 h))
      = vexp (k0_pay12 (F := Ideal) h) (vfield (k0_pay12 (F := Ideal) h)) := by
  have h13 : k0_pay13 (F := Ideal) h = vstep (k0_pay12 (F := Ideal) h) (broadcast S1024x1 0#32) 128#32 := by unfold k0_pay13; rfl
  have h14 : k0_pay14 (F := Ideal) h = addi (k0_pay13 (F := Ideal) h) (broadcast S1024x1 64#32) := rfl
  rw [h14, h13]
  generalize k0_pay12 (F := Ideal) h = t
  have h15 : k0_pay15 (F := Ideal) t (vstep t (broadcast S1024x1 0#32) 128#32)
      (addi (vstep t (broadcast S1024x1 0#32) 128#32) (broadcast S1024x1 64#32)) 23#32 = vfield t := by
    unfold k0_pay15 vfield; rfl
  rw [h15]
  rfl

/-- The first group's scale. -/
theorem pay8_apply (a b : FVec Ideal S1024x256 .f32) (j : S1024x1.Idx) :
    k0_pay8 (F := Ideal) (k0_pay4 a b) (k0_pay5 (F := Ideal) a b) (k0_pay6 (F := Ideal) a b) 23#32 j
      = scale (k0_pay4 (F := Ideal) a b j) := by
  unfold k0_pay8
  rw [pay7_eq, ← wscale_eq, ← vexp_apply]
  rfl

/-- The first group's codes. -/
theorem pay9_apply (a b : FVec Ideal S1024x256 .f32) (r : Fin 1024) (l : Fin 128) :
    k0_pay9 (F := Ideal) (k0_pay3 a b) (k0_pay7 (F := Ideal) (k0_pay4 a b) (k0_pay5 (F := Ideal) a b) (k0_pay6 (F := Ideal) a b) 23#32) (ix2 r l)
      = code (k0_pay4 (F := Ideal) a b (ix2 r 0)) (gated (a (ix2 r ⟨l.val, by omega⟩)) (b (ix2 r ⟨l.val, by omega⟩))) := by
  unfold code
  rw [← winv_eq, ← vexp_apply]
  unfold k0_pay9
  rw [pay7_eq]
  rw [← pay3_apply]
  generalize k0_pay3 (F := Ideal) a b = x
  simp only [pointwise]
  rfl

/-- The second group's codes. -/
theorem pay18_apply (h : FVec Ideal S1024x256 .f32) (r : Fin 1024) (l : Fin 128) :
    k0_pay18 (F := Ideal) (k0_pay11 h) (k0_pay15 (F := Ideal) (k0_pay12 h) (k0_pay13 (F := Ideal) h) (k0_pay14 (F := Ideal) h) 23#32)
        (k0_pay16 (F := Ideal) (k0_pay12 h)) (ix2 r l)
      = code (k0_pay12 (F := Ideal) h (ix2 r 0)) (h (ix2 r ⟨128 + l.val, by omega⟩)) := by
  unfold code
  rw [← winv_eq, ← vexp_apply]
  unfold k0_pay18
  rw [pay17_eq]
  rw [← pay11_apply h r l]
  generalize k0_pay11 (F := Ideal) h = x
  simp only [pointwise]
  rfl

/-- A choice by a word's equality. -/
theorem select_eq (u v : BitVec 32) (x y : EReal) : Scalar.select (IntOp.cmpi .eq u v) x y = if u = v then x else y := by
  unfold IntOp.cmpi Scalar.select
  by_cases h : u = v
  · simp [h]
  · simp [h, beq_eq_false_iff_ne.mpr h]

/-- The scales with the first group's put in its lane. -/
theorem pay10_apply (arg1 : BitVec 32) (v : IVec S1024x18 32) (s : FVec Ideal S1024x1 .f32) (y : FVec Ideal S1024x18 .f32)
    (r : Fin 1024) (l : Fin 18) :
    k0_pay10 (F := Ideal) arg1 v s y (ix2 r l) = if v (ix2 r l) = arg1 * 2#32 + 0#32 then s (ix2 r 0) else y (ix2 r l) := by
  simp only [k0_pay10, pointwise]
  exact select_eq _ _ _ _

/-- The scales with the second group's put in its lane. -/
theorem pay19_apply (arg1 : BitVec 32) (v : IVec S1024x18 32) (h : FVec Ideal S1024x256 .f32) (y : FVec Ideal S1024x18 .f32)
    (r : Fin 1024) (l : Fin 18) :
    k0_pay19 (F := Ideal) arg1 v (k0_pay15 (F := Ideal) (k0_pay12 h) (k0_pay13 (F := Ideal) h) (k0_pay14 (F := Ideal) h) 23#32)
        (k0_pay16 (F := Ideal) (k0_pay12 h)) y (ix2 r l)
      = if v (ix2 r l) = arg1 * 2#32 + 1#32 then scale (k0_pay12 (F := Ideal) h (ix2 r 0)) else y (ix2 r l) := by
  rw [← wscale_eq, ← vexp_apply]
  unfold k0_pay19
  rw [pay17_eq]
  simp only [pointwise]
  exact select_eq _ _ _ _

end Cert.KernelIdeal.Tile

end
-- ==== Proof.RunValue.lean ====
/-
  The values stored by the runs of the kernel body: the accumulators after a contraction step, and the codes and scales
  written at the last step of a tile.
-/
module

public import proofs.«01_k».proof.Proof.RunC
public import proofs.«01_k».proof.Proof.Step
public import proofs.«01_k».proof.Proof.Tile
public import Idealize.ShloMosaic.Lib.Tactic.RunNames

@[expose] public section

set_option maxRecDepth 16384

noncomputable section

namespace Cert.KernelIdeal.Body

open Cert.KernelIdeal Cert.KernelIdeal.Gen Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero offset. -/
theorem hz2 : (![0, 0] : Fin 2 → Nat) = fun _ => 0 := by decide

set_option maxHeartbeats 3056000 in
/-- A middle step stores the gate accumulator after the step. -/
theorem runB_0 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) :
    (kernelRun0_B (F := Ideal) c i arg3 harg3 arg4 harg4 arg5 harg5 arg6 harg6 arg7 harg7 arg8 harg8 arg9 harg9 arg10 harg10 arg11 harg11 hc0 hc1 x0 x1 x2 x3 x4 xs0 xs1).1
      = [⟨Rect.unit (s := S1024x256) ![0, 0] S1024x256.size inb_S1024x256_S1024x256_0_0, acc1 i 0 x0 x1 x2 x3 xs0⟩] := by
  unfold kernelRun0_B
  dsimp only
  sl_unfold_run_values
  sl_unfold_words
  simp only [View.readAt_eq_ld, harg4.read_unread, harg3.read_unread, harg5.read_unread, harg6.read_unread, harg7.read_unread, harg9.read_unread, harg10.read_unread, harg11.read_unread, View.ld_unit_zero (S := S1024x256) hz2, View.ld_unit_zero (S := S1024x18) hz2]
  exact rfl

set_option maxHeartbeats 3056000 in
/-- A middle step stores the up accumulator after the step. -/
theorem runB_1 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) :
    (kernelRun0_B (F := Ideal) c i arg3 harg3 arg4 harg4 arg5 harg5 arg6 harg6 arg7 harg7 arg8 harg8 arg9 harg9 arg10 harg10 arg11 harg11 hc0 hc1 x0 x1 x2 x3 x4 xs0 xs1).2.1
      = [⟨Rect.unit (s := S1024x256) ![0, 0] S1024x256.size inb_S1024x256_S1024x256_0_0, acc1 i 1 x0 x1 x2 x4 xs1⟩] := by
  unfold kernelRun0_B
  dsimp only
  sl_unfold_run_values
  sl_unfold_words
  simp only [View.readAt_eq_ld, harg4.read_unread, harg3.read_unread, harg5.read_unread, harg6.read_unread, harg7.read_unread, harg9.read_unread, harg10.read_unread, harg11.read_unread, View.ld_unit_zero (S := S1024x256) hz2, View.ld_unit_zero (S := S1024x18) hz2]
  exact rfl

set_option maxHeartbeats 3056000 in
/-- The first step stores zero and then the gate accumulator after the step. -/
theorem runA_0 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) :
    (kernelRun0_A (F := Ideal) c i arg3 harg3 arg4 harg4 arg5 harg5 arg6 harg6 arg7 harg7 arg8 harg8 arg9 harg9 arg10 harg10 arg11 harg11 hc0 hc1 x0 x1 x2 x3 x4).1
      = [⟨Rect.unit (s := S1024x256) ![0, 0] S1024x256.size inb_S1024x256_S1024x256_0_0, acc1 i 0 x0 x1 x2 x3 (k0_pay20 (F := Ideal))⟩, ⟨Rect.unit (s := S1024x256) ![0, 0] S1024x256.size inb_S1024x256_S1024x256_0_0, k0_pay20 (F := Ideal)⟩] := by
  unfold kernelRun0_A
  dsimp only
  have hv : ∀ w : View sig .tc .vmem S1024x256 .f32, w.readCov (kernelRun0_A.sl.HS0_1 (F := Ideal))
      (Rect.unit (s := S1024x256) ![0, 0] S1024x256.size inb_S1024x256_S1024x256_0_0).toLoadRect = k0_pay20 (F := Ideal) :=
    fun w => View.readCov_cons_toLoadRect w _ _ _
  sl_unfold_run_values
  rw [hv]
  unfold kernelRun0_A.sl.HS0_1
  sl_unfold_words
  simp only [View.readAt_eq_ld, harg4.read_unread, harg3.read_unread, harg5.read_unread, harg6.read_unread, harg7.read_unread, harg9.read_unread, harg10.read_unread, harg11.read_unread, View.ld_unit_zero (S := S1024x256) hz2, View.ld_unit_zero (S := S1024x18) hz2]
  exact rfl

set_option maxHeartbeats 3056000 in
/-- The first step stores zero and then the up accumulator after the step. -/
theorem runA_1 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) :
    (kernelRun0_A (F := Ideal) c i arg3 harg3 arg4 harg4 arg5 harg5 arg6 harg6 arg7 harg7 arg8 harg8 arg9 harg9 arg10 harg10 arg11 harg11 hc0 hc1 x0 x1 x2 x3 x4).2.1
      = [⟨Rect.unit (s := S1024x256) ![0, 0] S1024x256.size inb_S1024x256_S1024x256_0_0, acc1 i 1 x0 x1 x2 x4 (k0_pay21 (F := Ideal))⟩, ⟨Rect.unit (s := S1024x256) ![0, 0] S1024x256.size inb_S1024x256_S1024x256_0_0, k0_pay21 (F := Ideal)⟩] := by
  unfold kernelRun0_A
  dsimp only
  have hv : ∀ w : View sig .tc .vmem S1024x256 .f32, w.readCov (kernelRun0_A.sl.HS1_1 (F := Ideal))
      (Rect.unit (s := S1024x256) ![0, 0] S1024x256.size inb_S1024x256_S1024x256_0_0).toLoadRect = k0_pay21 (F := Ideal) :=
    fun w => View.readCov_cons_toLoadRect w _ _ _
  sl_unfold_run_values
  rw [hv]
  unfold kernelRun0_A.sl.HS1_1
  sl_unfold_words
  simp only [View.readAt_eq_ld, harg4.read_unread, harg3.read_unread, harg5.read_unread, harg6.read_unread, harg7.read_unread, harg9.read_unread, harg10.read_unread, harg11.read_unread, View.ld_unit_zero (S := S1024x256) hz2, View.ld_unit_zero (S := S1024x18) hz2]
  exact rfl

set_option maxHeartbeats 3056000 in
/-- The last step stores the gate accumulator after the step. -/
theorem runC_0 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) :
    (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.2.1
      = [⟨Rect.unit (s := S1024x256) ![0, 0] S1024x256.size inb_S1024x256_S1024x256_0_0, acc1 i 0 x0 x1 x2 x3 xs0⟩] := by
  unfold kernelRun0_C
  dsimp only
  unfold kernelRun0_C.sl.HS0_1
  sl_unfold_run_values
  sl_unfold_words
  simp only [View.readAt_eq_ld, harg4.read_unread, harg3.read_unread, harg5.read_unread, harg6.read_unread, harg7.read_unread, harg9.read_unread, harg10.read_unread, harg11.read_unread, View.ld_unit_zero (S := S1024x256) hz2, View.ld_unit_zero (S := S1024x18) hz2]
  exact rfl

set_option maxHeartbeats 3056000 in
/-- The last step stores the up accumulator after the step. -/
theorem runC_1 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) :
    (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.2.2.1
      = [⟨Rect.unit (s := S1024x256) ![0, 0] S1024x256.size inb_S1024x256_S1024x256_0_0, acc1 i 1 x0 x1 x2 x4 xs1⟩] := by
  unfold kernelRun0_C
  dsimp only
  unfold kernelRun0_C.sl.HS1_1
  sl_unfold_run_values
  sl_unfold_words
  simp only [View.readAt_eq_ld, harg4.read_unread, harg3.read_unread, harg5.read_unread, harg6.read_unread, harg7.read_unread, harg9.read_unread, harg10.read_unread, harg11.read_unread, View.ld_unit_zero (S := S1024x256) hz2, View.ld_unit_zero (S := S1024x18) hz2]
  exact rfl

/-- The gated product of a tile at its last step. -/
def hC (i : grid0.Coords) (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 xs1 : Vec Ideal S1024x256 .f32) : FVec Ideal S1024x256 .f32 :=
  k0_pay2 (F := Ideal) (acc1 i 0 x0 x1 x2 x3 xs0) (acc1 i 1 x0 x1 x2 x4 xs1)

/-- The scales of the tile's rows with the first group's put in its lane. -/
def y10 (i : grid0.Coords) (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 xs1 : Vec Ideal S1024x256 .f32) (y : Vec Ideal S1024x18 .f32) : FVec Ideal S1024x18 .f32 :=
  k0_pay10 (F := Ideal) (BitVec.ofNat 32 (i 1).val) (iota .tc S1024x18 32 [1] iota_S1024x18_d1_w32)
    (k0_pay8 (F := Ideal) (k0_pay4 (F := Ideal) (acc1 i 0 x0 x1 x2 x3 xs0) (acc1 i 1 x0 x1 x2 x4 xs1)) (k0_pay5 (F := Ideal) (acc1 i 0 x0 x1 x2 x3 xs0) (acc1 i 1 x0 x1 x2 x4 xs1)) (k0_pay6 (F := Ideal) (acc1 i 0 x0 x1 x2 x3 xs0) (acc1 i 1 x0 x1 x2 x4 xs1)) 23#32) y

/-- The scales of the tile's rows with both groups' put in their lanes. -/
def y19 (i : grid0.Coords) (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 xs1 : Vec Ideal S1024x256 .f32) (y : Vec Ideal S1024x18 .f32) : FVec Ideal S1024x18 .f32 :=
  k0_pay19 (F := Ideal) (BitVec.ofNat 32 (i 1).val) (iota .tc S1024x18 32 [1] iota_S1024x18_d1_w32)
    (k0_pay15 (F := Ideal) (k0_pay12 (hC i x0 x1 x2 x3 x4 xs0 xs1)) (k0_pay13 (F := Ideal) (hC i x0 x1 x2 x3 x4 xs0 xs1)) (k0_pay14 (F := Ideal) (hC i x0 x1 x2 x3 x4 xs0 xs1)) 23#32) (k0_pay16 (F := Ideal) (k0_pay12 (hC i x0 x1 x2 x3 x4 xs0 xs1))) (y10 i x0 x1 x2 x3 x4 xs0 xs1 y)

set_option maxHeartbeats 3056000 in
/-- The last step stores the codes of the tile's two groups. -/
theorem runC_5 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) :
    (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).1
      = [⟨Rect.unit (s := S1024x256) ![0, 128] S1024x128.size inb_S1024x256_S1024x128_0_128, k0_pay18 (F := Ideal) (k0_pay11 (hC i x0 x1 x2 x3 x4 xs0 xs1)) (k0_pay15 (F := Ideal) (k0_pay12 (hC i x0 x1 x2 x3 x4 xs0 xs1)) (k0_pay13 (F := Ideal) (hC i x0 x1 x2 x3 x4 xs0 xs1)) (k0_pay14 (F := Ideal) (hC i x0 x1 x2 x3 x4 xs0 xs1)) 23#32) (k0_pay16 (F := Ideal) (k0_pay12 (hC i x0 x1 x2 x3 x4 xs0 xs1)))⟩,
          ⟨Rect.unit (s := S1024x256) ![0, 0] S1024x128.size inb_S1024x256_S1024x128_0_0, k0_pay9 (F := Ideal) (k0_pay3 (acc1 i 0 x0 x1 x2 x3 xs0) (acc1 i 1 x0 x1 x2 x4 xs1)) (k0_pay7 (F := Ideal) (k0_pay4 (F := Ideal) (acc1 i 0 x0 x1 x2 x3 xs0) (acc1 i 1 x0 x1 x2 x4 xs1)) (k0_pay5 (F := Ideal) (acc1 i 0 x0 x1 x2 x3 xs0) (acc1 i 1 x0 x1 x2 x4 xs1)) (k0_pay6 (F := Ideal) (acc1 i 0 x0 x1 x2 x3 xs0) (acc1 i 1 x0 x1 x2 x4 xs1)) 23#32)⟩] := by
  unfold kernelRun0_C
  dsimp only
  have e0 := runC_0 c i arg3 harg3 arg4 harg4 arg5 harg5 arg6 harg6 arg7 harg7 arg8 harg8 arg9 harg9 arg10 harg10 arg11 harg11 hc0 hc1 x0 x1 x2 x3 x4 xs0 xs1 y6
  have e1 := runC_1 c i arg3 harg3 arg4 harg4 arg5 harg5 arg6 harg6 arg7 harg7 arg8 harg8 arg9 harg9 arg10 harg10 arg11 harg11 hc0 hc1 x0 x1 x2 x3 x4 xs0 xs1 y6
  unfold kernelRun0_C at e0 e1
  dsimp only at e0 e1
  simp only [kernelRun0_C.sl.r_153, kernelRun0_C.sl.r_154, kernelRun0_C.sl.r_155, kernelRun0_C.sl.r_156, kernelRun0_C.sl.r_157, kernelRun0_C.sl.r_158, kernelRun0_C.sl.r_159, kernelRun0_C.sl.r_160, kernelRun0_C.sl.r_161, kernelRun0_C.sl.r_162, kernelRun0_C.sl.r_163, kernelRun0_C.sl.r_164, kernelRun0_C.sl.r_165, kernelRun0_C.sl.r_166]
  simp only [kernelRun0_C.sl.v1138, kernelRun0_C.sl.v1139, e0, e1, View.readCov_cons_toLoadRect]
  exact rfl

set_option maxHeartbeats 3056000 in
/-- The last step stores the scales with the first group's in its lane, and then with both groups'. -/
theorem runC_6 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) :
    (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.1
      = [⟨Rect.unit (s := S1024x18) ![0, 0] S1024x18.size inb_S1024x18_S1024x18_0_0, y19 i x0 x1 x2 x3 x4 xs0 xs1 y6⟩,
          ⟨Rect.unit (s := S1024x18) ![0, 0] S1024x18.size inb_S1024x18_S1024x18_0_0, y10 i x0 x1 x2 x3 x4 xs0 xs1 y6⟩] := by
  unfold kernelRun0_C
  dsimp only
  have e0 := runC_0 c i arg3 harg3 arg4 harg4 arg5 harg5 arg6 harg6 arg7 harg7 arg8 harg8 arg9 harg9 arg10 harg10 arg11 harg11 hc0 hc1 x0 x1 x2 x3 x4 xs0 xs1 y6
  have e1 := runC_1 c i arg3 harg3 arg4 harg4 arg5 harg5 arg6 harg6 arg7 harg7 arg8 harg8 arg9 harg9 arg10 harg10 arg11 harg11 hc0 hc1 x0 x1 x2 x3 x4 xs0 xs1 y6
  unfold kernelRun0_C at e0 e1
  dsimp only at e0 e1
  simp only [kernelRun0_C.sl.r_153, kernelRun0_C.sl.r_154, kernelRun0_C.sl.r_155, kernelRun0_C.sl.r_156, kernelRun0_C.sl.r_157, kernelRun0_C.sl.r_158, kernelRun0_C.sl.r_159, kernelRun0_C.sl.r_160, kernelRun0_C.sl.r_161, kernelRun0_C.sl.r_162, kernelRun0_C.sl.r_163, kernelRun0_C.sl.r_164, kernelRun0_C.sl.r_165, kernelRun0_C.sl.r_166, kernelRun0_C.sl.v1349, kernelRun0_C.sl.H6_1, kernelRun0_C.sl.v1137]
  simp only [kernelRun0_C.sl.v1138, kernelRun0_C.sl.v1139, e0, e1, View.readCov_cons_toLoadRect]
  simp only [View.readAt_eq_ld, harg4.read_unread, harg3.read_unread, harg5.read_unread, harg6.read_unread, harg7.read_unread, harg9.read_unread, harg10.read_unread, harg11.read_unread, View.ld_unit_zero (S := S1024x256) hz2, View.ld_unit_zero (S := S1024x18) hz2]
  exact rfl

end Cert.KernelIdeal.Body

end
-- ==== Proof.Triples.lean ====
/-
  The kernel body's triples with the contents it leaves: at the first, a middle and the last contraction step of a tile.
-/
module

public import proofs.«01_k».proof.Proof.RunValue

@[expose] public section

set_option maxRecDepth 16384

noncomputable section

namespace Cert.KernelIdeal.Body

open Cert.KernelIdeal Cert.KernelIdeal.Gen Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The codes of a tile, as its last step stores them. -/
def cC (i : grid0.Coords) (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 xs1 : Vec Ideal S1024x256 .f32) : FVec Ideal S1024x256 .fp8e4m3 :=
  View.canon (Val := Elt Ideal) (e := .fp8e4m3) [⟨Rect.unit (s := S1024x256) ![0, 128] S1024x128.size inb_S1024x256_S1024x128_0_128, k0_pay18 (F := Ideal) (k0_pay11 (hC i x0 x1 x2 x3 x4 xs0 xs1)) (k0_pay15 (F := Ideal) (k0_pay12 (hC i x0 x1 x2 x3 x4 xs0 xs1)) (k0_pay13 (F := Ideal) (hC i x0 x1 x2 x3 x4 xs0 xs1)) (k0_pay14 (F := Ideal) (hC i x0 x1 x2 x3 x4 xs0 xs1)) 23#32) (k0_pay16 (F := Ideal) (k0_pay12 (hC i x0 x1 x2 x3 x4 xs0 xs1)))⟩,
          ⟨Rect.unit (s := S1024x256) ![0, 0] S1024x128.size inb_S1024x256_S1024x128_0_0, k0_pay9 (F := Ideal) (k0_pay3 (acc1 i 0 x0 x1 x2 x3 xs0) (acc1 i 1 x0 x1 x2 x4 xs1)) (k0_pay7 (F := Ideal) (k0_pay4 (F := Ideal) (acc1 i 0 x0 x1 x2 x3 xs0) (acc1 i 1 x0 x1 x2 x4 xs1)) (k0_pay5 (F := Ideal) (acc1 i 0 x0 x1 x2 x3 xs0) (acc1 i 1 x0 x1 x2 x4 xs1)) (k0_pay6 (F := Ideal) (acc1 i 0 x0 x1 x2 x3 xs0) (acc1 i 1 x0 x1 x2 x4 xs1)) 23#32)⟩]

/-- A buffer into which a covering list of stores was made holds what the stores leave. -/
theorem owns_of_writes (c : Dev nD) {sp : Space} {S : Shape} {e : EltTy} (M : Memref sig .tc sp S e) (L : List (View.Piece (Elt Ideal) S e))
    (X : S.Idx → Elt Ideal e) (h : (∀ y, ∃ p ∈ L, y ∈ p.1.set) ∧ View.canon L = X) :
    iprop(∃ f, M.view.loc (c : Thread nD τ) ↦[M.view.set]{fullShare} M.view.writes (Elt Ideal) f L) ⊢ (owns (c : Thread nD τ) M fullShare X : sProp 𝕄) := by
  unfold owns
  iintro ⟨%f, H⟩
  iexists _
  isplitr
  swap; · iexact H
  ipureintro
  rw [View.read_writes_eq_canon _ _ _ h.1, h.2]

/-- The stores into the gate accumulator cover it, and what they leave. -/
theorem leftA_0 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) :
    (∀ y, ∃ p ∈ (kernelRun0_A (F := Ideal) c i arg3 harg3 arg4 harg4 arg5 harg5 arg6 harg6 arg7 harg7 arg8 harg8 arg9 harg9 arg10 harg10 arg11 harg11 hc0 hc1 x0 x1 x2 x3 x4).1, y ∈ p.1.set)
      ∧ View.canon (Val := Elt Ideal) (kernelRun0_A (F := Ideal) c i arg3 harg3 arg4 harg4 arg5 harg5 arg6 harg6 arg7 harg7 arg8 harg8 arg9 harg9 arg10 harg10 arg11 harg11 hc0 hc1 x0 x1 x2 x3 x4).1 = (acc1 i 0 x0 x1 x2 x3 (k0_pay20 (F := Ideal))) := by
  rw [runA_0 c i arg3 harg3 arg4 harg4 arg5 harg5 arg6 harg6 arg7 harg7 arg8 harg8 arg9 harg9 arg10 harg10 arg11 harg11 hc0 hc1 x0 x1 x2 x3 x4]
  exact ⟨View.cover_of_tiledL _ S1024x256.size (by sl_kernel_rfl), View.canon_cons_unit_zero hz2 _ _ _⟩

/-- The stores into the up accumulator cover it, and what they leave. -/
theorem leftA_1 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) :
    (∀ y, ∃ p ∈ (kernelRun0_A (F := Ideal) c i arg3 harg3 arg4 harg4 arg5 harg5 arg6 harg6 arg7 harg7 arg8 harg8 arg9 harg9 arg10 harg10 arg11 harg11 hc0 hc1 x0 x1 x2 x3 x4).2.1, y ∈ p.1.set)
      ∧ View.canon (Val := Elt Ideal) (kernelRun0_A (F := Ideal) c i arg3 harg3 arg4 harg4 arg5 harg5 arg6 harg6 arg7 harg7 arg8 harg8 arg9 harg9 arg10 harg10 arg11 harg11 hc0 hc1 x0 x1 x2 x3 x4).2.1 = (acc1 i 1 x0 x1 x2 x4 (k0_pay21 (F := Ideal))) := by
  rw [runA_1 c i arg3 harg3 arg4 harg4 arg5 harg5 arg6 harg6 arg7 harg7 arg8 harg8 arg9 harg9 arg10 harg10 arg11 harg11 hc0 hc1 x0 x1 x2 x3 x4]
  exact ⟨View.cover_of_tiledL _ S1024x256.size (by sl_kernel_rfl), View.canon_cons_unit_zero hz2 _ _ _⟩

set_option maxHeartbeats 400000 in
/-- The first contraction step of a tile: the accumulators hold the step's products, whatever they held. -/
theorem triple_A (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (y5 : Vec Ideal S1024x256 .fp8e4m3) (y6 : Vec Ideal S1024x18 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare (acc1 i 0 x0 x1 x2 x3 (k0_pay20 (F := Ideal))) ∗ owns (c : Thread nD τ) arg11 fullShare (acc1 i 1 x0 x1 x2 x4 (k0_pay21 (F := Ideal)))) -∗ K ⟨⟩))
      ⊢ wp frame (wpE (defs₀ (F := Ideal)) Variants.none c none) E (cc0_gate_up_swiglu i arg3 harg3 arg4 harg4 arg5 harg5 arg6 harg6 arg7 harg7 arg8 harg8 arg9 harg9 arg10 harg10 arg11 harg11) K := by
  iintro ⟨H0, H1, H2, H3, H4, H5, H6, HS0, HS1, Hk⟩
  iapply (kernelRun0_A (F := Ideal) c i arg3 harg3 arg4 harg4 arg5 harg5 arg6 harg6 arg7 harg7 arg8 harg8 arg9 harg9 arg10 harg10 arg11 harg11 hc0 hc1 x0 x1 x2 x3 x4).2.2 y5 y6 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iapply (owns_of_writes c arg10 _ _ (leftA_0 c i arg3 harg3 arg4 harg4 arg5 harg5 arg6 harg6 arg7 harg7 arg8 harg8 arg9 harg9 arg10 harg10 arg11 harg11 hc0 hc1 x0 x1 x2 x3 x4)); iexact HS0
  iapply (owns_of_writes c arg11 _ _ (leftA_1 c i arg3 harg3 arg4 harg4 arg5 harg5 arg6 harg6 arg7 harg7 arg8 harg8 arg9 harg9 arg10 harg10 arg11 harg11 hc0 hc1 x0 x1 x2 x3 x4)); iexact HS1

/-- The stores into the gate accumulator cover it, and what they leave. -/
theorem leftB_0 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) :
    (∀ y, ∃ p ∈ (kernelRun0_B (F := Ideal) c i arg3 harg3 arg4 harg4 arg5 harg5 arg6 harg6 arg7 harg7 arg8 harg8 arg9 harg9 arg10 harg10 arg11 harg11 hc0 hc1 x0 x1 x2 x3 x4 xs0 xs1).1, y ∈ p.1.set)
      ∧ View.canon (Val := Elt Ideal) (kernelRun0_B (F := Ideal) c i arg3 harg3 arg4 harg4 arg5 harg5 arg6 harg6 arg7 harg7 arg8 harg8 arg9 harg9 arg10 harg10 arg11 harg11 hc0 hc1 x0 x1 x2 x3 x4 xs0 xs1).1 = (acc1 i 0 x0 x1 x2 x3 xs0) := by
  rw [runB_0 c i arg3 harg3 arg4 harg4 arg5 harg5 arg6 harg6 arg7 harg7 arg8 harg8 arg9 harg9 arg10 harg10 arg11 harg11 hc0 hc1 x0 x1 x2 x3 x4 xs0 xs1]
  exact ⟨View.cover_of_tiledL _ S1024x256.size (by sl_kernel_rfl), View.canon_cons_unit_zero hz2 _ _ _⟩

/-- The stores into the up accumulator cover it, and what they leave. -/
theorem leftB_1 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) :
    (∀ y, ∃ p ∈ (kernelRun0_B (F := Ideal) c i arg3 harg3 arg4 harg4 arg5 harg5 arg6 harg6 arg7 harg7 arg8 harg8 arg9 harg9 arg10 harg10 arg11 harg11 hc0 hc1 x0 x1 x2 x3 x4 xs0 xs1).2.1, y ∈ p.1.set)
      ∧ View.canon (Val := Elt Ideal) (kernelRun0_B (F := Ideal) c i arg3 harg3 arg4 harg4 arg5 harg5 arg6 harg6 arg7 harg7 arg8 harg8 arg9 harg9 arg10 harg10 arg11 harg11 hc0 hc1 x0 x1 x2 x3 x4 xs0 xs1).2.1 = (acc1 i 1 x0 x1 x2 x4 xs1) := by
  rw [runB_1 c i arg3 harg3 arg4 harg4 arg5 harg5 arg6 harg6 arg7 harg7 arg8 harg8 arg9 harg9 arg10 harg10 arg11 harg11 hc0 hc1 x0 x1 x2 x3 x4 xs0 xs1]
  exact ⟨View.cover_of_tiledL _ S1024x256.size (by sl_kernel_rfl), View.canon_cons_unit_zero hz2 _ _ _⟩

set_option maxHeartbeats 400000 in
/-- A middle contraction step of a tile: the accumulators take the step's products. -/
theorem triple_B (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y5 : Vec Ideal S1024x256 .fp8e4m3) (y6 : Vec Ideal S1024x18 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare xs0 ∗ owns (c : Thread nD τ) arg11 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare (acc1 i 0 x0 x1 x2 x3 xs0) ∗ owns (c : Thread nD τ) arg11 fullShare (acc1 i 1 x0 x1 x2 x4 xs1)) -∗ K ⟨⟩))
      ⊢ wp frame (wpE (defs₀ (F := Ideal)) Variants.none c none) E (cc0_gate_up_swiglu i arg3 harg3 arg4 harg4 arg5 harg5 arg6 harg6 arg7 harg7 arg8 harg8 arg9 harg9 arg10 harg10 arg11 harg11) K := by
  iintro ⟨H0, H1, H2, H3, H4, H5, H6, HS0, HS1, Hk⟩
  iapply (kernelRun0_B (F := Ideal) c i arg3 harg3 arg4 harg4 arg5 harg5 arg6 harg6 arg7 harg7 arg8 harg8 arg9 harg9 arg10 harg10 arg11 harg11 hc0 hc1 x0 x1 x2 x3 x4 xs0 xs1).2.2 y5 y6 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iapply (owns_of_writes c arg10 _ _ (leftB_0 c i arg3 harg3 arg4 harg4 arg5 harg5 arg6 harg6 arg7 harg7 arg8 harg8 arg9 harg9 arg10 harg10 arg11 harg11 hc0 hc1 x0 x1 x2 x3 x4 xs0 xs1)); iexact HS0
  iapply (owns_of_writes c arg11 _ _ (leftB_1 c i arg3 harg3 arg4 harg4 arg5 harg5 arg6 harg6 arg7 harg7 arg8 harg8 arg9 harg9 arg10 harg10 arg11 harg11 hc0 hc1 x0 x1 x2 x3 x4 xs0 xs1)); iexact HS1

/-- The stores of the codes cover the tile, and what they leave. -/
theorem leftC_5 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) :
    (∀ y, ∃ p ∈ (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).1, y ∈ p.1.set)
      ∧ View.canon (Val := Elt Ideal) (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).1 = (cC i x0 x1 x2 x3 x4 xs0 xs1) := by
  rw [runC_5 c i arg3 harg3 arg4 harg4 arg5 harg5 arg6 harg6 arg7 harg7 arg8 harg8 arg9 harg9 arg10 harg10 arg11 harg11 hc0 hc1 x0 x1 x2 x3 x4 xs0 xs1 y6]
  exact ⟨View.cover_of_tiledL _ S1024x128.size (by sl_kernel_rfl), rfl⟩

/-- The stores of the scales cover the rows' scales, and what they leave. -/
theorem leftC_6 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) :
    (∀ y, ∃ p ∈ (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.1, y ∈ p.1.set)
      ∧ View.canon (Val := Elt Ideal) (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.1 = (y19 i x0 x1 x2 x3 x4 xs0 xs1 y6) := by
  rw [runC_6 c i arg3 harg3 arg4 harg4 arg5 harg5 arg6 harg6 arg7 harg7 arg8 harg8 arg9 harg9 arg10 harg10 arg11 harg11 hc0 hc1 x0 x1 x2 x3 x4 xs0 xs1 y6]
  exact ⟨View.cover_of_tiledL _ S1024x18.size (by sl_kernel_rfl), View.canon_cons_unit_zero hz2 _ _ _⟩

/-- The stores into the gate accumulator cover it, and what they leave. -/
theorem leftC_0 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) :
    (∀ y, ∃ p ∈ (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.2.1, y ∈ p.1.set)
      ∧ View.canon (Val := Elt Ideal) (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.2.1 = (acc1 i 0 x0 x1 x2 x3 xs0) := by
  rw [runC_0 c i arg3 harg3 arg4 harg4 arg5 harg5 arg6 harg6 arg7 harg7 arg8 harg8 arg9 harg9 arg10 harg10 arg11 harg11 hc0 hc1 x0 x1 x2 x3 x4 xs0 xs1 y6]
  exact ⟨View.cover_of_tiledL _ S1024x256.size (by sl_kernel_rfl), View.canon_cons_unit_zero hz2 _ _ _⟩

/-- The stores into the up accumulator cover it, and what they leave. -/
theorem leftC_1 (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) :
    (∀ y, ∃ p ∈ (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.2.2.1, y ∈ p.1.set)
      ∧ View.canon (Val := Elt Ideal) (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.2.2.1 = (acc1 i 1 x0 x1 x2 x4 xs1) := by
  rw [runC_1 c i arg3 harg3 arg4 harg4 arg5 harg5 arg6 harg6 arg7 harg7 arg8 harg8 arg9 harg9 arg10 harg10 arg11 harg11 hc0 hc1 x0 x1 x2 x3 x4 xs0 xs1 y6]
  exact ⟨View.cover_of_tiledL _ S1024x256.size (by sl_kernel_rfl), View.canon_cons_unit_zero hz2 _ _ _⟩

set_option maxHeartbeats 400000 in
/-- The last contraction step of a tile: the accumulators take the step's products, and the tile's codes and scales are written. -/
theorem triple_C (c : Dev nD) (i : grid0.Coords) (arg3 : Memref sig .tc .smem S36x144 .f32) (harg3 : arg3.IsWhole) (arg4 : Memref sig .tc .vmem S1024x2304 .fp8e4m3) (harg4 : arg4.IsWhole) (arg5 : Memref sig .tc .vmem S1x1024x18 .f32) (harg5 : arg5.IsWhole) (arg6 : Memref sig .tc .vmem S256x2304 .fp8e4m3) (harg6 : arg6.IsWhole) (arg7 : Memref sig .tc .vmem S256x2304 .fp8e4m3) (harg7 : arg7.IsWhole) (arg8 : Memref sig .tc .vmem S1024x256 .fp8e4m3) (harg8 : arg8.IsWhole) (arg9 : Memref sig .tc .vmem S1024x18 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec Ideal S36x144 .f32) (x1 : Vec Ideal S1024x2304 .fp8e4m3) (x2 : Vec Ideal S1x1024x18 .f32) (x3 : Vec Ideal S256x2304 .fp8e4m3) (x4 : Vec Ideal S256x2304 .fp8e4m3) (xs0 : Vec Ideal S1024x256 .f32) (xs1 : Vec Ideal S1024x256 .f32) (y6 : Vec Ideal S1024x18 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y6 ∗ owns (c : Thread nD τ) arg10 fullShare xs0 ∗ owns (c : Thread nD τ) arg11 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (cC i x0 x1 x2 x3 x4 xs0 xs1) ∗ owns (c : Thread nD τ) arg9 fullShare (y19 i x0 x1 x2 x3 x4 xs0 xs1 y6) ∗ owns (c : Thread nD τ) arg10 fullShare (acc1 i 0 x0 x1 x2 x3 xs0) ∗ owns (c : Thread nD τ) arg11 fullShare (acc1 i 1 x0 x1 x2 x4 xs1)) -∗ K ⟨⟩))
      ⊢ wp frame (wpE (defs₀ (F := Ideal)) Variants.none c none) E (cc0_gate_up_swiglu i arg3 harg3 arg4 harg4 arg5 harg5 arg6 harg6 arg7 harg7 arg8 harg8 arg9 harg9 arg10 harg10 arg11 harg11) K := by
  iintro ⟨H0, H1, H2, H3, H4, H5, H6, HS0, HS1, Hk⟩
  iapply (kernelRun0_C (F := Ideal) c i arg3 harg3 arg4 harg4 arg5 harg5 arg6 harg6 arg7 harg7 arg8 harg8 arg9 harg9 arg10 harg10 arg11 harg11 hc0 hc1 x0 x1 x2 x3 x4 xs0 xs1 y6).2.2.2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  iapply Hk
  isplitl [H0]; · iexact H0
  isplitl [H1]; · iexact H1
  isplitl [H2]; · iexact H2
  isplitl [H3]; · iexact H3
  isplitl [H4]; · iexact H4
  isplitl [H5]; · iapply (owns_of_writes c arg8 _ _ (leftC_5 c i arg3 harg3 arg4 harg4 arg5 harg5 arg6 harg6 arg7 harg7 arg8 harg8 arg9 harg9 arg10 harg10 arg11 harg11 hc0 hc1 x0 x1 x2 x3 x4 xs0 xs1 y6)); iexact H5
  isplitl [H6]; · iapply (owns_of_writes c arg9 _ _ (leftC_6 c i arg3 harg3 arg4 harg4 arg5 harg5 arg6 harg6 arg7 harg7 arg8 harg8 arg9 harg9 arg10 harg10 arg11 harg11 hc0 hc1 x0 x1 x2 x3 x4 xs0 xs1 y6)); iexact H6
  isplitl [HS0]; · iapply (owns_of_writes c arg10 _ _ (leftC_0 c i arg3 harg3 arg4 harg4 arg5 harg5 arg6 harg6 arg7 harg7 arg8 harg8 arg9 harg9 arg10 harg10 arg11 harg11 hc0 hc1 x0 x1 x2 x3 x4 xs0 xs1 y6)); iexact HS0
  iapply (owns_of_writes c arg11 _ _ (leftC_1 c i arg3 harg3 arg4 harg4 arg5 harg5 arg6 harg6 arg7 harg7 arg8 harg8 arg9 harg9 arg10 harg10 arg11 harg11 hc0 hc1 x0 x1 x2 x3 x4 xs0 xs1 y6)); iexact HS1

end Cert.KernelIdeal.Body

end
-- ==== Proof.TileValue.lean ====
/-
  The codes and scales of a tile, element by element, from its two accumulators.
-/
module

public import proofs.«01_k».proof.Proof.Triples

@[expose] public section

set_option maxRecDepth 16384

noncomputable section

namespace Cert.KernelIdeal.Body

open Cert.KernelIdeal Cert.KernelIdeal.Gen Cert.KernelIdeal.Step Cert.KernelIdeal.Tile Cert.Quant
open Idealize.ShloMosaic

/-- The gated products of group `g` of a tile's row `r`. -/
def grp (a b : FVec Ideal S1024x256 .f32) (r : Fin 1024) (g : Fin 2) (l : Fin 128) : EReal :=
  gated (a (ix2 r ⟨128 * g.val + l.val, by omega⟩)) (b (ix2 r ⟨128 * g.val + l.val, by omega⟩))

/-- The code of a tile's element. -/
def codeOf (a b : FVec Ideal S1024x256 .f32) (r : Fin 1024) (q : Fin 256) : EReal :=
  code (amax (grp a b r ⟨q.val / 128, by omega⟩)) (gated (a (ix2 r q)) (b (ix2 r q)))

/-- The scale of a group of a tile's row. -/
def scaleOf (a b : FVec Ideal S1024x256 .f32) (r : Fin 1024) (g : Fin 2) : EReal := scale (amax (grp a b r g))

variable (i : grid0.Coords) (x0 : Vec Ideal S36x144 .f32) (x1 : Vec Ideal S1024x2304 .fp8e4m3) (x2 : Vec Ideal S1x1024x18 .f32)
  (x3 : Vec Ideal S256x2304 .fp8e4m3) (x4 : Vec Ideal S256x2304 .fp8e4m3) (xs0 xs1 : Vec Ideal S1024x256 .f32)

theorem hC_apply (r : Fin 1024) (q : Fin 256) :
    hC i x0 x1 x2 x3 x4 xs0 xs1 (ix2 r q) = gated (acc1 i 0 x0 x1 x2 x3 xs0 (ix2 r q)) (acc1 i 1 x0 x1 x2 x4 xs1 (ix2 r q)) :=
  pay2_apply _ _ _

/-- The first group's scaled maximum. -/
theorem amax0 (a b : FVec Ideal S1024x256 .f32) (r : Fin 1024) : k0_pay4 (F := Ideal) a b (ix2 r 0) = amax (grp a b r 0) := by
  rw [pay4_apply]
  refine congrArg amax (funext fun l => ?_)
  have e : (⟨l.val, by omega⟩ : Fin 256) = ⟨128 * (0 : Fin 2).val + l.val, by rw [Fin.val_zero]; omega⟩ := Fin.ext (by simp)
  unfold grp
  rw [← e]

/-- The second group's scaled maximum. -/
theorem amax1 (r : Fin 1024) :
    k0_pay12 (F := Ideal) (hC i x0 x1 x2 x3 x4 xs0 xs1) (ix2 r 0)
      = amax (grp (acc1 i 0 x0 x1 x2 x3 xs0) (acc1 i 1 x0 x1 x2 x4 xs1) r 1) := by
  rw [pay12_apply]
  simp only [hC_apply]
  rfl

/-- The tile's codes. -/
theorem cC_apply (r : Fin 1024) (q : Fin 256) :
    cC i x0 x1 x2 x3 x4 xs0 xs1 (ix2 r q) = codeOf (acc1 i 0 x0 x1 x2 x3 xs0) (acc1 i 1 x0 x1 x2 x4 xs1) r q := by
  unfold cC
  refine View.canon_eq_of_allAt _ _ _ (View.cover_of_tiledL (s := S1024x256) _ S1024x128.size (by sl_kernel_rfl) _) ?_
  refine View.allAt_cons_unit _ _ _ _ _ ?_ (View.allAt_cons_unit _ _ _ _ _ ?_ (View.allAt_nil _ _))
  · intro x hx
    have h0 : r.val = 0 + (x 0).val := hx 0
    have h1 : q.val = 128 + (x 1).val := hx 1
    have hx1 : (x 1).val < 128 := (x 1).isLt
    have e0 : (x 0) = r := Fin.ext (by rw [h0, Nat.zero_add])
    have hxe : x = ix2 r ⟨q.val - 128, by omega⟩ := by
      funext a; fin_cases a
      · exact e0
      · exact Fin.ext (by show (x 1).val = q.val - 128; omega)
    rw [hxe, pay18_apply, amax1]
    have hq : (⟨128 + (q.val - 128), by omega⟩ : Fin 256) = q := Fin.ext (by show 128 + (q.val - 128) = q.val; omega)
    have hg : (⟨q.val / 128, by omega⟩ : Fin 2) = 1 := Fin.ext (by show q.val / 128 = 1; omega)
    unfold codeOf
    rw [hg]
    simp only [hq, hC_apply]
  · intro x hx
    have h0 : r.val = 0 + (x 0).val := hx 0
    have h1 : q.val = 0 + (x 1).val := hx 1
    have hx1 : (x 1).val < 128 := (x 1).isLt
    have e0 : (x 0) = r := Fin.ext (by rw [h0, Nat.zero_add])
    have hxe : x = ix2 r ⟨q.val, by omega⟩ := by
      funext a; fin_cases a
      · exact e0
      · exact Fin.ext (by show (x 1).val = q.val; omega)
    rw [hxe, pay9_apply, amax0]
    have hg : (⟨q.val / 128, by omega⟩ : Fin 2) = 0 := Fin.ext (by show q.val / 128 = 0; omega)
    unfold codeOf
    rw [hg]

/-- The lane numbers. -/
theorem lane_apply (r : Fin 1024) (l : Fin 18) :
    iota .tc S1024x18 32 [1] iota_S1024x18_d1_w32 (ix2 r l) = BitVec.ofNat 32 l.val := by
  simp only [pointwise]
  show BitVec.ofNat 32 (0 * 18 + l.val) = _
  rw [Nat.zero_mul, Nat.zero_add]

/-- The tile's rows' scales: the two groups' in the tile's two lanes, and what was there elsewhere. -/
theorem y19_apply (y : Vec Ideal S1024x18 .f32) (j : Fin 9) (hj : (i 1).val = j.val) (r : Fin 1024) (l : Fin 18) :
    y19 i x0 x1 x2 x3 x4 xs0 xs1 y (ix2 r l)
      = if l.val = 2 * j.val + 1 then scaleOf (acc1 i 0 x0 x1 x2 x3 xs0) (acc1 i 1 x0 x1 x2 x4 xs1) r 1
        else if l.val = 2 * j.val then scaleOf (acc1 i 0 x0 x1 x2 x3 xs0) (acc1 i 1 x0 x1 x2 x4 xs1) r 0
        else y (ix2 r l) := by
  have hw : ∀ n : ℕ, n < 2 → ((BitVec.ofNat 32 l.val = BitVec.ofNat 32 (i 1).val * 2#32 + BitVec.ofNat 32 n) ↔ l.val = 2 * j.val + n) := by
    intro n hn
    rw [hj]
    have h1 := l.isLt
    have h2 := j.isLt
    rw [← BitVec.toNat_inj]
    simp only [BitVec.toNat_ofNat, BitVec.toNat_add, BitVec.toNat_mul]
    omega
  unfold y19
  rw [pay19_apply, lane_apply, amax1]
  unfold y10
  rw [pay10_apply, lane_apply, pay8_apply, amax0]
  simp only [hw 0 (by omega), hw 1 (by omega)]
  rfl

end Cert.KernelIdeal.Body

end
-- ==== Proof.Body.lean ====
/-
  The kernel's pipeline with what its body leaves at every grid point: the two accumulators point by point, the codes of a
  finished tile, and the scales of the tiles finished so far in a row of tiles; and the run of the whole kernel over them.
-/
module

public import proofs.«01_k».proof.Proof.TileValue
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Body

open Cert.KernelIdeal Cert.KernelIdeal.Gen Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat cellOf)

local notation "𝕄" => MT nD τ sig Unit (Elt Ideal) ℕ (UR sig nD τ) ℕ

variable (m : (ℓ : Loc nD τ sig) → Buf (Elt Ideal) ℓ) (ρ : Dev nD → PrngReg)

/-- What the body at point `t` makes of the two accumulators. -/
def accStep (c : Dev nD) (t : Fin cfg0.N) (a : FVec Ideal S1024x256 .f32 × FVec Ideal S1024x256 .f32) :
    FVec Ideal S1024x256 .f32 × FVec Ideal S1024x256 .f32 :=
  (acc1 (grid0.coords t) 0 (iblk m c 0 t) (iblk m c 1 t) (iblk m c 2 t) (iblk m c 3 t) a.1,
   acc1 (grid0.coords t) 1 (iblk m c 0 t) (iblk m c 1 t) (iblk m c 2 t) (iblk m c 4 t) a.2)

/-- What a tile's two accumulators start from. -/
def acc0 : FVec Ideal S1024x256 .f32 × FVec Ideal S1024x256 .f32 := (k0_pay20 (F := Ideal), k0_pay21 (F := Ideal))

/-- The two accumulators after point `n`: a tile's first step starts from `acc0`, any other from what the point before left. -/
def accAt (c : Dev nD) : (n : ℕ) → n < cfg0.N → FVec Ideal S1024x256 .f32 × FVec Ideal S1024x256 .f32
  | 0, hn => accStep m c ⟨0, hn⟩ acc0
  | n + 1, hn => accStep m c ⟨n + 1, hn⟩ (if (n + 1) % 8 = 0 then acc0 else accAt c n (by omega))

theorem accAt_first (c : Dev nD) (t : Fin cfg0.N) (h0 : t.val % 8 = 0) : accAt m c t.val t.isLt = accStep m c t acc0 := by
  obtain ⟨n, hn⟩ := t
  cases n with
  | zero => rfl
  | succ n => exact congrArg (accStep m c ⟨n + 1, hn⟩) (if_pos h0)

theorem accAt_next (c : Dev nD) (t : Fin cfg0.N) (h0 : ¬t.val % 8 = 0) :
    accAt m c t.val t.isLt = accStep m c t (accAt m c (t.val - 1) (by omega)) := by
  obtain ⟨n, hn⟩ := t
  cases n with
  | zero => exact absurd (Nat.zero_mod _) h0
  | succ n => exact congrArg (accStep m c ⟨n + 1, hn⟩) (if_neg h0)

/-- The invariant before position `n`: before the first point the accumulators hold anything, afterwards what the point
    before left. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-- The two output windows, held to `Rl` below. -/
def outs : Fin 7 → Bool := fun w => w.val == 5 || w.val == 6

/-- The codes of the tile that ends at point `t`. -/
def CodesAt (c : Dev nD) (t : Fin cfg0.N) (X : Vec Ideal S1024x256 .fp8e4m3) : Prop :=
  t.val % 8 = 7 → ∀ r q, X (ix2 r q) = codeOf (accAt m c t.val t.isLt).1 (accAt m c t.val t.isLt).2 r q

/-- The scales of the tiles that ended before position `n` in the row of tiles of position `t`. -/
def ScalesBefore (c : Dev nD) (t n : ℕ) (X : Vec Ideal S1024x18 .f32) : Prop :=
  ∀ u : Fin cfg0.N, u.val / 72 = t / 72 → u.val < n → u.val % 8 = 7 → ∀ (r : Fin 1024) (g : Fin 2),
    X (ix2 r ⟨2 * (u.val / 8 % 9) + g.val, by omega⟩) = scaleOf (accAt m c u.val u.isLt).1 (accAt m c u.val u.isLt).2 r g

/-- What the body leaves in the output windows. -/
def Rl (c : Dev nD) (w : Fin cfg0.W) (t : Fin cfg0.N) : ((cfg0.win w).block.Idx → Elt Ideal (cfg0.win w).elt) → Prop :=
  match w with
  | ⟨5, _⟩ => fun X => CodesAt m c t X
  | ⟨6, _⟩ => fun X => ScalesBefore m c t.val (t.val + 1) X
  | _ => fun _ => True

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q w := Pipeline.shareOf spec0 w
  owed _ := 0

/-- The same with the output windows held to `Rl`. -/
abbrev rdats (c : Dev nD) : RDat τ (Elt Ideal) Unit ℕ (UR sig nD τ) ℕ cfg0 c := (dats m 0 c).toRRel outs (Rl m c)

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body finds in the scale window: the scales of the tiles that ended before in this row of tiles. -/
theorem found6 (c : Dev nD) (t : Fin cfg0.N) (Y : Vec Ideal S1024x18 .f32) (hY : (rdats m c).Finds 6 t Y) :
    ScalesBefore m c t.val t.val Y := by
  intro u hu hlt h7
  have hpos : t.val ≠ 0 := by omega
  have hfetch : (cfg0.win 6).fetch t = false := Window.fetch_out _ rfl t
  rcases (RDat.finds_of_pos (rd := rdats m c) (w := 6) hfetch hpos Y).mp hY with hfl | hL
  · have := (flush0_6 _).mp hfl
    dsimp only at this
    omega
  · have hR : ScalesBefore m c (t.val - 1) (t.val - 1 + 1) Y := (dats m 0 c).toRRel_leaves (w := 6) rfl hL
    exact hR u (by omega) (by omega) h7

/-- A step that stores no codes leaves nothing to show of them. -/
theorem codes_other (c : Dev nD) (t : Fin cfg0.N) (h : ¬t.val % 8 = 7) (X : Vec Ideal S1024x256 .fp8e4m3) : Rl m c 5 t X :=
  fun h7 => absurd h7 h

/-- A step that stores no scales leaves those it found. -/
theorem scales_other (c : Dev nD) (t : Fin cfg0.N) (h : ¬t.val % 8 = 7) (Y : Vec Ideal S1024x18 .f32)
    (hY : (rdats m c).Finds 6 t Y) : Rl m c 6 t Y := by
  intro u hu hlt h7
  exact found6 m c t Y hY u hu (by omega) h7

/-- The grid coordinate of a point along the tiles of a row of tiles. -/
theorem coord1 (t : Fin cfg0.N) : ((grid0.coords t) 1).val = t.val / 8 % 9 := by
  exact Pipeline.Grid.coords_val (S := 8) (B := 9) t 1 (by decide) rfl

/-- The grid coordinate of a point along the contraction. -/
theorem coord2 (t : Fin cfg0.N) : ((grid0.coords t) 2).val = t.val % 8 := by
  rw [Pipeline.Grid.coords_val (S := 1) (B := 8) t 2 (by decide) rfl, Nat.div_one]

/-- A tile's last step stores its codes. -/
theorem codes_last (c : Dev nD) (t : Fin cfg0.N) (h0 : ¬t.val % 8 = 0) :
    Rl m c 5 t (cC (grid0.coords t) (iblk m c 0 t) (iblk m c 1 t) (iblk m c 2 t) (iblk m c 3 t) (iblk m c 4 t) (accAt m c (t.val - 1) (by omega)).1 (accAt m c (t.val - 1) (by omega)).2) := by
  intro h7 r q
  rw [accAt_next m c t h0]
  exact cC_apply (grid0.coords t) (iblk m c 0 t) (iblk m c 1 t) (iblk m c 2 t) (iblk m c 3 t) (iblk m c 4 t) _ _ r q

/-- A tile's last step adds its scales to those of the tiles before it. -/
theorem scales_last (c : Dev nD) (t : Fin cfg0.N) (h0 : ¬t.val % 8 = 0) (Y : Vec Ideal S1024x18 .f32)
    (hY : (rdats m c).Finds 6 t Y) :
    Rl m c 6 t (y19 (grid0.coords t) (iblk m c 0 t) (iblk m c 1 t) (iblk m c 2 t) (iblk m c 3 t) (iblk m c 4 t) (accAt m c (t.val - 1) (by omega)).1 (accAt m c (t.val - 1) (by omega)).2 Y) := by
  intro u hu hlt h7 r g
  refine (y19_apply (grid0.coords t) (iblk m c 0 t) (iblk m c 1 t) (iblk m c 2 t) (iblk m c 3 t) (iblk m c 4 t) _ _ Y
    ⟨t.val / 8 % 9, by omega⟩ (coord1 t) r _).trans ?_
  dsimp only
  by_cases hut : u.val = t.val
  · obtain rfl : u = t := Fin.ext hut
    rw [accAt_next m c u h0]
    match g with
    | ⟨0, _⟩ => rw [if_neg (by simp), if_pos (by simp)]; rfl
    | ⟨1, _⟩ => rw [if_pos rfl]; rfl
  · rw [if_neg (by omega), if_neg (by omega)]
    exact found6 m c t Y hY u hu (by omega) h7 r g

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdats m c).Finds 5 t Y⌝ ∗ owns (c : Thread nD τ) (ms0_5 t) fullShare Y)
    ∗ (∃ Y, ⌜(rdats m c).Finds 6 t Y⌝ ∗ owns (c : Thread nD τ) (ms0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

set_option maxHeartbeats 9600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, after0_0, after0_1, after0_2, after0_3, after0_4]
  rw [show (dats m 0 c).owesAt () t.succ = (dats m 0 c).owesAt () t.castSucc from rfl]
  rw [show (dats m 0 c).Φ t.succ = PhiS m c (t.val + 1) t.isLt from rfl, PhiS_succ, PhiS_castSucc m c t]
  by_cases h0 : t.val % 8 = 0
  · have h1 : ¬t.val % 8 = 7 := by omega
    rw [accAt_first m c t h0]
    have hΦ : PhiS m c t.val (Nat.le_of_lt t.isLt) ⊢ iprop(iprop((∃ d, owns (c : Thread nD τ) scM0_0 fullShare d) ∗ (∃ d, owns (c : Thread nD τ) scM0_1 fullShare d)) ∗ (∃ r, prngReg c r)) := by
      by_cases hz : t.val = 0
      · rw [PhiS_zero m c _ _ hz, PhiA0_eq]
      · rw [PhiS_pos m c _ _ hz]
        iintro ⟨⟨HS0, HS1⟩, Hg⟩
        isplitl [HS0 HS1]
        · isplitl [HS0]
          · iexists _; iexact HS0
          iexists _; iexact HS1
        iexact Hg
    refine (sep_mono hΦ .rfl).trans ?_
    iintro ⟨⟨⟨HS0, HS1⟩, Hg⟩, Ho, ⟨%d0, H0⟩, ⟨%d1, H1⟩, ⟨%d2, H2⟩, ⟨%d3, H3⟩, ⟨%d4, H4⟩, ⟨%Y5, %hY5, H5⟩, ⟨%Y6, %hY6, H6⟩⟩
    iapply (triple_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Y5 Y6 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      swap; · iexact H5
      ipureintro; exact codes_other m c t h1 _
    iexists _; isplitr
    swap; · iexact H6
    ipureintro; exact scales_other m c t h1 _ hY6
  · have hz : t.val ≠ 0 := fun h => h0 (by rw [h])
    rw [accAt_next m c t h0, PhiS_pos m c _ _ hz]
    by_cases h1 : t.val % 8 = 7
    · iintro ⟨⟨⟨HS0, HS1⟩, Hg⟩, Ho, ⟨%d0, H0⟩, ⟨%d1, H1⟩, ⟨%d2, H2⟩, ⟨%d3, H3⟩, ⟨%d4, H4⟩, ⟨%Y5, %hY5, H5⟩, ⟨%Y6, %hY6, H6⟩⟩
      iapply (triple_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ Y6 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr
        swap; · iexact H5
        ipureintro; exact codes_last m c t h0
      iexists _; isplitr
      swap; · iexact H6
      ipureintro; exact scales_last m c t h0 _ hY6
    · iintro ⟨⟨⟨HS0, HS1⟩, Hg⟩, Ho, ⟨%d0, H0⟩, ⟨%d1, H1⟩, ⟨%d2, H2⟩, ⟨%d3, H3⟩, ⟨%d4, H4⟩, ⟨%Y5, %hY5, H5⟩, ⟨%Y6, %hY6, H6⟩⟩
      iapply (triple_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ Y5 Y6 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr
        swap; · iexact H5
        ipureintro; exact codes_other m c t h1 _
      iexists _; isplitr
      swap; · iexact H6
      ipureintro; exact scales_other m c t h1 _ hY6

theorem defs₀_row (t : Fin cfg0.N) : (defs₀ (F := Ideal)) .tc cfg0.body (cfg0.bodyArgs t (cfg0.slots t)) = bodyAt0 t := by
  unfold defs₀; rw [Defs.onTc_tc]

/-- The body obligation, the output windows held to `Rl`. -/
theorem body_obligation (c : Dev nD) : BodyObligationRel (dats m 0 c) (defs₀ (F := Ideal)) Variants.none () Set.univ outs (Rl m c) := by
  intro t
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the accumulators' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 1728 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run of @main: the pipeline's arrays end at what the flushed points leave in them, and every semaphore is at zero. -/
theorem run_main_quiescent : θ_run defs (onTc (τ := τ) (main (F := Ideal))) (s₀ m ρ)
    (fun r => (Pipeline.RDat.FramePost (cfgs 0) (rdats m) (V m)) r ∧ r.2.sem = fun _ => 0) :=
  Pipeline.RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m) (hin := hin m) (hout := hout m)

/-- The argument arrays end unchanged. -/
theorem kept (r : PUnit × MemSt nD τ sig (Elt Ideal)) (h : Pipeline.RDat.FramePost (cfgs 0) (rdats m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (Pipeline.RDat.FramePost.arr_in h c 4 rfl).trans ((A_eq m c 4).trans (V_main_arg2 m c)),
   (Pipeline.RDat.FramePost.arr_in h c 0 rfl).trans ((A_eq m c 0).trans (V_main_arg3 m c))⟩

end Cert.KernelIdeal.Body

end
-- ==== Proof.Blocks.lean ====
/-
  What the kernel's windows hold at a grid point, element by element, in terms of the launch contents of its arguments.
-/
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.SL.Sem

variable (m : (ℓ : Loc nD τ sig) → Buf (Elt Ideal) ℓ)

/-- The block indices of the windows at a grid point. -/
theorem idx : ∀ t : Fin cfg0.N, win0_0.index t = ![0, 0] ∧ win0_1.index t = ![t.val / 72, t.val % 8]
    ∧ win0_2.index t = ![t.val % 8, t.val / 72, 0] ∧ win0_3.index t = ![t.val / 8 % 9, t.val % 8]
    ∧ win0_4.index t = ![9 + t.val / 8 % 9, t.val % 8] ∧ win0_5.index t = ![t.val / 72, t.val / 8 % 9]
    ∧ win0_6.index t = ![t.val / 72, 0] := by decide +kernel

theorem lt_N (t : Fin cfg0.N) : t.val < 1728 := lt_of_lt_of_eq t.isLt (show cfg0.N = 1728 from N_0)

/-- The activations as the launch leaves them, rows of all batches in order. -/
def xRow (c : Dev nD) (R : Fin 24576) (k : Fin 18432) : EReal :=
  m ((c : Thread nD τ).loc main_arg0) (ix3 ⟨R.val / 4096, by omega⟩ ⟨R.val % 4096, by omega⟩ k)

/-- Their scales. -/
def xsRow (c : Dev nD) (R : Fin 24576) (g : Fin 144) : EReal :=
  m ((c : Thread nD τ).loc main_arg1) (ix3 ⟨R.val / 4096, by omega⟩ ⟨R.val % 4096, by omega⟩ g)

/-- The weights. -/
def wRow (c : Dev nD) (C : Fin 4608) (k : Fin 18432) : EReal := m ((c : Thread nD τ).loc main_arg2) (ix2 C k)

/-- Their scales. -/
def wsRow (c : Dev nD) (C : Fin 36) (g : Fin 144) : EReal := m ((c : Thread nD τ).loc main_arg3) (ix2 C g)

/-- The region finds the activations with their rows in order, -/
theorem V_v0 (c : Dev nD) : V m c main_v0 = shapeCast S24576x18432 (m ((c : Thread nD τ).loc main_arg0)) shapeCasts_S6x4096x18432_S24576x18432 := by
  unfold_abbrev_sides
  after_results
  rfl

/-- and their scales by groups of the contraction first. -/
theorem V_v2 (c : Dev nD) : V m c main_v2 = transpose S8x24576x18 [1, 0, 2] (shapeCast S24576x8x18 (m ((c : Thread nD τ).loc main_arg1)) shapeCasts_S6x4096x144_S24576x8x18) transposes_S24576x8x18_S8x24576x18_1_0_2 := by
  unfold_abbrev_sides
  after_results
  rfl

theorem V_v0_apply (c : Dev nD) (R : Fin 24576) (k : Fin 18432) : V m c main_v0 (ix2 R k) = xRow m c R k := by
  rw [V_v0]
  refine shapeCast_apply _ _ _ (ix3 ⟨R.val / 4096, by omega⟩ ⟨R.val % 4096, by omega⟩ k) ?_
  have h : R.val = R.val / 4096 * 4096 + R.val % 4096 := by omega
  have hl := (Shape.rowMajor_val_three (ix3 (⟨R.val / 4096, by omega⟩ : Fin 6) (⟨R.val % 4096, by omega⟩ : Fin 4096) k))
  have hr := (Shape.rowMajor_val_two (ix2 R k))
  refine hl.trans (Eq.trans ?_ hr.symm)
  show (R.val / 4096 * 4096 + R.val % 4096) * 18432 + k.val = R.val * 18432 + k.val
  omega

theorem V_v2_apply (c : Dev nD) (j : Fin 8) (R : Fin 24576) (g : Fin 18) :
    V m c main_v2 (ix3 j R g) = xsRow m c R ⟨18 * j.val + g.val, by omega⟩ := by
  rw [V_v2]
  refine (show _ = shapeCast S24576x8x18 (m ((c : Thread nD τ).loc main_arg1)) shapeCasts_S6x4096x144_S24576x8x18 (ix3 R j g) by simp only [pointwise]).trans ?_
  refine shapeCast_apply _ _ _ (ix3 ⟨R.val / 4096, by omega⟩ ⟨R.val % 4096, by omega⟩ ⟨18 * j.val + g.val, by omega⟩) ?_
  have hl := (Shape.rowMajor_val_three (ix3 (⟨R.val / 4096, by omega⟩ : Fin 6) (⟨R.val % 4096, by omega⟩ : Fin 4096) (⟨18 * j.val + g.val, by omega⟩ : Fin 144)))
  have hr := (Shape.rowMajor_val_three (ix3 R j g))
  refine hl.trans (Eq.trans ?_ hr.symm)
  show (R.val / 4096 * 4096 + R.val % 4096) * 144 + (18 * j.val + g.val) = (R.val * 8 + j.val) * 18 + g.val
  omega

theorem iblk_0 (c : Dev nD) (t : Fin cfg0.N) (a : Fin 36) (b : Fin 144) : iblk m c 0 t (ix2 a b) = wsRow m c a b := by
  unfold wsRow
  blk_ext [iblk, V, idx t]

theorem iblk_1 (c : Dev nD) (t : Fin cfg0.N) (r : Fin 1024) (q : Fin 2304) :
    iblk m c 1 t (ix2 r q) = xRow m c ⟨1024 * (t.val / 72) + r.val, by have := lt_N t; omega⟩ ⟨2304 * (t.val % 8) + q.val, by omega⟩ := by
  have := lt_N t
  rw [← V_v0_apply]
  blk_ext [iblk, idx t]

theorem iblk_2 (c : Dev nD) (t : Fin cfg0.N) (r : Fin 1024) (g : Fin 18) :
    iblk m c 2 t (ix3 0 r g) = xsRow m c ⟨1024 * (t.val / 72) + r.val, by have := lt_N t; omega⟩ ⟨18 * (t.val % 8) + g.val, by omega⟩ := by
  have := lt_N t
  rw [show (⟨18 * (t.val % 8) + g.val, by omega⟩ : Fin 144) = ⟨18 * (⟨t.val % 8, by omega⟩ : Fin 8).val + g.val, by omega⟩ from rfl, ← V_v2_apply]
  blk_ext [iblk, idx t]

theorem iblk_3 (c : Dev nD) (t : Fin cfg0.N) (a : Fin 256) (q : Fin 2304) :
    iblk m c 3 t (ix2 a q) = wRow m c ⟨256 * (t.val / 8 % 9) + a.val, by omega⟩ ⟨2304 * (t.val % 8) + q.val, by omega⟩ := by
  unfold wRow
  blk_ext [iblk, V, idx t]

theorem iblk_4 (c : Dev nD) (t : Fin cfg0.N) (a : Fin 256) (q : Fin 2304) :
    iblk m c 4 t (ix2 a q) = wRow m c ⟨2304 + 256 * (t.val / 8 % 9) + a.val, by omega⟩ ⟨2304 * (t.val % 8) + q.val, by omega⟩ := by
  unfold wRow
  blk_ext [iblk, V, idx t]

end Cert.KernelIdeal.Body

end
-- ==== Proof.Spec.lean ====
/-
  The two results in closed form, element by element, from the activations, the weights and their scales.
-/
module

public import proofs.«01_k».proof.Proof.Tile

@[expose] public section

noncomputable section

namespace Cert.Spec

open Cert.KernelIdeal.Tile Cert.Quant

variable (X : Fin 24576 → Fin 18432 → EReal) (XS : Fin 24576 → Fin 144 → EReal) (W : Fin 4608 → Fin 18432 → EReal)
  (WS : Fin 36 → Fin 144 → EReal)

/-- One product of the contraction: an activation by its scale, times a weight by its scale. -/
def prod (R : Fin 24576) (C : Fin 4608) (k : Fin 18432) : EReal :=
  X R k * XS R ⟨k.val / 128, by omega⟩ * (W C k * WS ⟨C.val / 128, by omega⟩ ⟨k.val / 128, by omega⟩)

/-- The contraction. -/
def dot (R : Fin 24576) (C : Fin 4608) : EReal := ∑ k : Fin 18432, prod X XS W WS R C k

/-- The gated product: the first half of the columns gates the second. -/
def hval (R : Fin 24576) (C : Fin 2304) : EReal :=
  gated (dot X XS W WS R ⟨C.val, by omega⟩) (dot X XS W WS R ⟨2304 + C.val, by omega⟩)

/-- A group's scaled maximum. -/
def gmax (R : Fin 24576) (L : Fin 18) : EReal := amax fun l : Fin 128 => hval X XS W WS R ⟨128 * L.val + l.val, by omega⟩

/-- The first result. -/
def codes (R : Fin 24576) (C : Fin 2304) : EReal := code (gmax X XS W WS R ⟨C.val / 128, by omega⟩) (hval X XS W WS R C)

/-- The second result. -/
def scales (R : Fin 24576) (L : Fin 18) : EReal := scale (gmax X XS W WS R L)

end Cert.Spec

end
-- ==== Proof.Sum.lean ====
/-
  The accumulators at a tile's last step are the contraction, and the tile's codes and scales are the closed form's.
-/
module

public import proofs.«01_k».proof.Proof.Blocks
public import proofs.«01_k».proof.Proof.Spec
public import Idealize.ShloMosaic.PureOps.Ideal.Laws

@[expose] public section

set_option maxRecDepth 16384

noncomputable section

namespace Cert.KernelIdeal.Body

open Cert.KernelIdeal Cert.KernelIdeal.Gen Cert.KernelIdeal.Step Cert.KernelIdeal.Tile
open Idealize.ShloMosaic Idealize.ShloMosaic.TcCoe Idealize.SL.Sem

variable (m : (ℓ : Loc nD τ sig) → Buf (Elt Ideal) ℓ)

/-- The products of one row and one column, of the arguments as the launch leaves them. -/
def prodAt (c : Dev nD) : Fin 24576 → Fin 4608 → Fin 18432 → EReal := Spec.prod (xRow m c) (xsRow m c) (wRow m c) (wsRow m c)

/-- What point `t` adds to an element of the first accumulator, -/
def part0 (c : Dev nD) (r : Fin 1024) (q : Fin 256) (t : Fin cfg0.N) : EReal :=
  ∑ p : Fin 2304, prodAt m c ⟨1024 * (t.val / 72) + r.val, by have := lt_N t; omega⟩ ⟨256 * (t.val / 8 % 9) + q.val, by omega⟩
    ⟨2304 * (t.val % 8) + p.val, by omega⟩

/-- and of the second. -/
def part1 (c : Dev nD) (r : Fin 1024) (q : Fin 256) (t : Fin cfg0.N) : EReal :=
  ∑ p : Fin 2304, prodAt m c ⟨1024 * (t.val / 72) + r.val, by have := lt_N t; omega⟩ ⟨2304 + 256 * (t.val / 8 % 9) + q.val, by omega⟩
    ⟨2304 * (t.val % 8) + p.val, by omega⟩

theorem step_fst (c : Dev nD) (t : Fin cfg0.N) (a : FVec Ideal S1024x256 .f32 × FVec Ideal S1024x256 .f32) (r : Fin 1024) (q : Fin 256) :
    (accStep m c t a).1 (ix2 r q) = a.1 (ix2 r q) + part0 m c r q t := by
  refine (acc1_apply (grid0.coords t) 0 (iblk m c 0 t) (iblk m c 1 t) (iblk m c 2 t) (iblk m c 3 t) a.1
    ⟨t.val / 8 % 9, by omega⟩ ⟨t.val % 8, by omega⟩ (coord1 t) (coord2 t) r q).trans ?_
  refine congrArg _ (Finset.sum_congr rfl fun p _ => ?_)
  unfold Step.term
  rw [iblk_0, iblk_1, iblk_2, iblk_3]
  unfold prodAt Spec.prod
  refine congr_arg₂ (· * ·) (congrArg _ (congrArg _ (Fin.ext ?_))) (congrArg _ (congr_arg₂ _ (Fin.ext ?_) (Fin.ext ?_)))
  · show 18 * (t.val % 8) + p.val / 128 = (2304 * (t.val % 8) + p.val) / 128
    omega
  · show 18 * 0 + 2 * (t.val / 8 % 9) + q.val / 128 = (256 * (t.val / 8 % 9) + q.val) / 128
    omega
  · show 18 * (t.val % 8) + p.val / 128 = (2304 * (t.val % 8) + p.val) / 128
    omega

theorem step_snd (c : Dev nD) (t : Fin cfg0.N) (a : FVec Ideal S1024x256 .f32 × FVec Ideal S1024x256 .f32) (r : Fin 1024) (q : Fin 256) :
    (accStep m c t a).2 (ix2 r q) = a.2 (ix2 r q) + part1 m c r q t := by
  refine (acc1_apply (grid0.coords t) 1 (iblk m c 0 t) (iblk m c 1 t) (iblk m c 2 t) (iblk m c 4 t) a.2
    ⟨t.val / 8 % 9, by omega⟩ ⟨t.val % 8, by omega⟩ (coord1 t) (coord2 t) r q).trans ?_
  refine congrArg _ (Finset.sum_congr rfl fun p _ => ?_)
  unfold Step.term
  rw [iblk_0, iblk_1, iblk_2, iblk_4]
  unfold prodAt Spec.prod
  refine congr_arg₂ (· * ·) (congrArg _ (congrArg _ (Fin.ext ?_))) (congrArg _ (congr_arg₂ _ (Fin.ext ?_) (Fin.ext ?_)))
  · show 18 * (t.val % 8) + p.val / 128 = (2304 * (t.val % 8) + p.val) / 128
    omega
  · show 18 * 1 + 2 * (t.val / 8 % 9) + q.val / 128 = (2304 + 256 * (t.val / 8 % 9) + q.val) / 128
    omega
  · show 18 * (t.val % 8) + p.val / 128 = (2304 * (t.val % 8) + p.val) / 128
    omega

theorem acc0_fst (r : Fin 1024) (q : Fin 256) : acc0.1 (ix2 r q) = 0 := Ideal.ofBits_zero_f32

theorem acc0_snd (r : Fin 1024) (q : Fin 256) : acc0.2 (ix2 r q) = 0 := Ideal.ofBits_zero_f32

/-- The first accumulator at a tile's last step. -/
theorem acc_fst (c : Dev nD) (t : Fin cfg0.N) (h7 : t.val % 8 = 7) (r : Fin 1024) (q : Fin 256) :
    (accAt m c t.val t.isLt).1 (ix2 r q) = Spec.dot (xRow m c) (xsRow m c) (wRow m c) (wsRow m c)
      ⟨1024 * (t.val / 72) + r.val, by have := lt_N t; omega⟩ ⟨256 * (t.val / 8 % 9) + q.val, by omega⟩ := by
  have h := Pipeline.eq_sum_fin_of_reset_step_of_flush (fun n hn => (accAt m c n hn).1 (ix2 r q)) 8 (0 : EReal) (part0 m c r q)
    (fun t h0 => by rw [accAt_first m c t h0, step_fst, acc0_fst]) (fun t h0 => by rw [accAt_next m c t h0, step_fst]) t h7
  refine h.trans ((zero_add _).trans ?_)
  unfold part0 Spec.dot
  have hN := lt_N t
  refine Fin.sum_mul_add_congr fun s p hl => ?_
  show prodAt m c _ _ _ = prodAt m c _ _ _
  congr 1 <;> exact Fin.ext (by simp only; omega)

/-- The second accumulator at a tile's last step. -/
theorem acc_snd (c : Dev nD) (t : Fin cfg0.N) (h7 : t.val % 8 = 7) (r : Fin 1024) (q : Fin 256) :
    (accAt m c t.val t.isLt).2 (ix2 r q) = Spec.dot (xRow m c) (xsRow m c) (wRow m c) (wsRow m c)
      ⟨1024 * (t.val / 72) + r.val, by have := lt_N t; omega⟩ ⟨2304 + 256 * (t.val / 8 % 9) + q.val, by omega⟩ := by
  have h := Pipeline.eq_sum_fin_of_reset_step_of_flush (fun n hn => (accAt m c n hn).2 (ix2 r q)) 8 (0 : EReal) (part1 m c r q)
    (fun t h0 => by rw [accAt_first m c t h0, step_snd, acc0_snd]) (fun t h0 => by rw [accAt_next m c t h0, step_snd]) t h7
  refine h.trans ((zero_add _).trans ?_)
  unfold part1 Spec.dot
  have hN := lt_N t
  refine Fin.sum_mul_add_congr fun s p hl => ?_
  show prodAt m c _ _ _ = prodAt m c _ _ _
  congr 1 <;> exact Fin.ext (by simp only; omega)

/-- The gated products of a finished tile. -/
theorem gated_acc (c : Dev nD) (t : Fin cfg0.N) (h7 : t.val % 8 = 7) (r : Fin 1024) (q : Fin 256) :
    gated ((accAt m c t.val t.isLt).1 (ix2 r q)) ((accAt m c t.val t.isLt).2 (ix2 r q))
      = Spec.hval (xRow m c) (xsRow m c) (wRow m c) (wsRow m c)
        ⟨1024 * (t.val / 72) + r.val, by have := lt_N t; omega⟩ ⟨256 * (t.val / 8 % 9) + q.val, by omega⟩ := by
  rw [acc_fst m c t h7, acc_snd m c t h7]
  unfold Spec.hval
  exact congrArg _ (congrArg _ (Fin.ext (Nat.add_assoc _ _ _)))

/-- The scaled maxima of a finished tile. -/
theorem amax_acc (c : Dev nD) (t : Fin cfg0.N) (h7 : t.val % 8 = 7) (r : Fin 1024) (g : Fin 2) :
    amax (grp (accAt m c t.val t.isLt).1 (accAt m c t.val t.isLt).2 r g)
      = Spec.gmax (xRow m c) (xsRow m c) (wRow m c) (wsRow m c)
        ⟨1024 * (t.val / 72) + r.val, by have := lt_N t; omega⟩ ⟨2 * (t.val / 8 % 9) + g.val, by omega⟩ := by
  unfold Spec.gmax
  refine congrArg amax (funext fun l => ?_)
  unfold grp
  rw [gated_acc m c t h7]
  refine congrArg _ (Fin.ext ?_)
  show 256 * (t.val / 8 % 9) + (128 * g.val + l.val) = 128 * (2 * (t.val / 8 % 9) + g.val) + l.val
  omega

/-- The codes of a finished tile. -/
theorem codeOf_acc (c : Dev nD) (t : Fin cfg0.N) (h7 : t.val % 8 = 7) (r : Fin 1024) (q : Fin 256) :
    codeOf (accAt m c t.val t.isLt).1 (accAt m c t.val t.isLt).2 r q
      = Spec.codes (xRow m c) (xsRow m c) (wRow m c) (wsRow m c)
        ⟨1024 * (t.val / 72) + r.val, by have := lt_N t; omega⟩ ⟨256 * (t.val / 8 % 9) + q.val, by omega⟩ := by
  unfold codeOf Spec.codes
  rw [gated_acc m c t h7, amax_acc m c t h7]
  have e : (⟨2 * (t.val / 8 % 9) + q.val / 128, by omega⟩ : Fin 18) = ⟨(256 * (t.val / 8 % 9) + q.val) / 128, by omega⟩ :=
    Fin.ext (by show 2 * (t.val / 8 % 9) + q.val / 128 = (256 * (t.val / 8 % 9) + q.val) / 128; omega)
  rw [e]

/-- The scales of a finished tile. -/
theorem scaleOf_acc (c : Dev nD) (t : Fin cfg0.N) (h7 : t.val % 8 = 7) (r : Fin 1024) (g : Fin 2) :
    scaleOf (accAt m c t.val t.isLt).1 (accAt m c t.val t.isLt).2 r g
      = Spec.scales (xRow m c) (xsRow m c) (wRow m c) (wsRow m c)
        ⟨1024 * (t.val / 72) + r.val, by have := lt_N t; omega⟩ ⟨2 * (t.val / 8 % 9) + g.val, by omega⟩ := by
  unfold scaleOf Spec.scales
  rw [amax_acc m c t h7]

end Cert.KernelIdeal.Body

end
-- ==== Proof.Arrays.lean ====
/-
  What the kernel's two result arrays hold after the run: the closed form, element by element.
-/
module

public import proofs.«01_k».proof.Proof.Sum

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat RDat)

variable (m : (ℓ : Loc nD τ sig) → Buf (Elt Ideal) ℓ)

/-- The first result, as an array, -/
def G5 (c : Dev nD) : Vec Ideal S24576x2304 .fp8e4m3 := fun i => Spec.codes (xRow m c) (xsRow m c) (wRow m c) (wsRow m c) (i 0) (i 1)

/-- and the second. -/
def G6 (c : Dev nD) : Vec Ideal S24576x18 .f32 := fun i => Spec.scales (xRow m c) (xsRow m c) (wRow m c) (wsRow m c) (i 0) (i 1)

/-- What a finished tile's codes are, at an index of the tile. -/
theorem codes_block (c : Dev nD) (t : Fin cfg0.N) (h7 : t.val % 8 = 7) (X : Vec Ideal S1024x256 .fp8e4m3) (hX : CodesAt m c t X)
    (y : S1024x256.Idx) (i : S24576x2304.Idx) (h0 : (i 0).val = 1024 * (t.val / 72) + (y 0).val)
    (h1 : (i 1).val = 256 * (t.val / 8 % 9) + (y 1).val) : X y = G5 m c i := by
  rw [eq_ix2 y]
  refine (hX h7 (y 0) (y 1)).trans ((codeOf_acc m c t h7 (y 0) (y 1)).trans ?_)
  exact congr_arg₂ (Spec.codes _ _ _ _) (Fin.ext h0.symm) (Fin.ext h1.symm)

/-- What the scales of a finished row of tiles are. -/
theorem scales_block (c : Dev nD) (t : Fin cfg0.N) (h71 : t.val % 72 = 71) (X : Vec Ideal S1024x18 .f32)
    (hX : ScalesBefore m c t.val (t.val + 1) X) (y : S1024x18.Idx) (i : S24576x18.Idx)
    (h0 : (i 0).val = 1024 * (t.val / 72) + (y 0).val) (h1 : (i 1).val = (y 1).val) : X y = G6 m c i := by
  have hN := lt_N t
  have hy : (y 1).val < 18 := (y 1).isLt
  let u : Fin cfg0.N := ⟨t.val / 72 * 72 + (y 1).val / 2 * 8 + 7, lt_of_le_of_lt (show _ ≤ t.val by omega) t.isLt⟩
  have hu : u.val = t.val / 72 * 72 + (y 1).val / 2 * 8 + 7 := rfl
  have h7 : u.val % 8 = 7 := by omega
  have e := (hX u (by omega) (by omega) h7 (y 0) ⟨(y 1).val % 2, by omega⟩).trans (scaleOf_acc m c u h7 (y 0) ⟨(y 1).val % 2, by omega⟩)
  have e1 : 2 * (u.val / 8 % 9) + (y 1).val % 2 = (y 1).val := by omega
  rw [eq_ix2 y]
  refine (congrArg (fun l => X (ix2 (y 0) l)) (Fin.ext e1.symm)).trans (e.trans ?_)
  refine congr_arg₂ (Spec.scales _ _ _ _) (Fin.ext ?_) (Fin.ext (e1.trans h1.symm))
  show 1024 * (u.val / 72) + (y 0).val = (i 0).val
  omega

/-- After the run both arrays hold the closed form. -/
theorem arrays (r : PUnit × MemSt nD τ sig (Elt Ideal)) (h : RDat.FramePost (cfgs 0) (rdats m) (V m) r) (c : Dev nD) :
    r.2.mem ((c.tc : Thread nD τ).loc main_v3_0) = G5 m c ∧ r.2.mem ((c.tc : Thread nD τ).loc main_v3_1) = G6 m c := by
  obtain ⟨after, hL, hA⟩ := RDat.FramePost.exists_exact h c
  refine ⟨(hA 5).trans ?_, (hA 6).trans ?_⟩
  · refine Dat.arrAt_eq_of_covers (cfg := cfg0) ((rdats m c).withAfter after) 5 (G5 m c) (by decide +kernel) fun t hf y => ?_
    have hX : CodesAt m c t (after 5 t) := Dat.toRRel_leaves (dats m 0 c) (w := 5) rfl (hL 5 t hf)
    have h7 := (flush0_5 t).mp hf
    refine codes_block m c t h7 (after 5 t) hX ((cfg0.win 5).xinj (cfg0.grid.coords t) y) _ ?_ ?_
    · blk_simp [idx t]
      exact congrArg (· + (y 0).val) (Nat.mul_comm _ _)
    · blk_simp [idx t]
      exact congrArg (· + (y 1).val) (Nat.mul_comm _ _)
  · refine Dat.arrAt_eq_of_covers (cfg := cfg0) ((rdats m c).withAfter after) 6 (G6 m c) (by decide +kernel) fun t hf y => ?_
    have hX : ScalesBefore m c t.val (t.val + 1) (after 6 t) := Dat.toRRel_leaves (dats m 0 c) (w := 6) rfl (hL 6 t hf)
    have h71 := (flush0_6 t).mp hf
    refine scales_block m c t h71 (after 6 t) hX ((cfg0.win 6).xinj (cfg0.grid.coords t) y) _ ?_ ?_
    · blk_simp [idx t]
      exact congrArg (· + (y 0).val) (Nat.mul_comm _ _)
    · blk_simp [idx t]

end Cert.KernelIdeal.Body

end
-- ==== Proof.RefDot.lean ====
/-
  The reference's contraction and gated product, element by element.
-/
module

public import proofs.«01_k».proof.Proof.Gen.ReferenceIdeal.Skeleton
public import proofs.«01_k».proof.Proof.Spec
public import Idealize.ShloMosaic.PureOps.Ideal.Laws
public import Idealize.ShloMosaic.Lib.Pointwise
public import Idealize.ShloMosaic.Lib.Pipeline.Value

@[expose] public section

set_option maxRecDepth 16384

noncomputable section

namespace Cert.ReferenceIdeal.Ref

open Cert.ReferenceIdeal Cert.ReferenceIdeal.Gen
open Idealize.ShloMosaic

variable (v0 : Vec Ideal S24576x18432 .fp8e4m3) (v4 : Vec Ideal S24576x144 .f32) (v11 : Vec Ideal S4608x18432 .fp8e4m3)
  (v14 : Vec Ideal S36x144 .f32)

/-- The scaled activations. -/
def xw : FVec Ideal S24576x18432 .bf16 :=
  shapeCast S24576x18432 (mulf (extf .bf16 (shapeCast S24576x144x128 (shapeCast S24576x18432 v0 shapeCasts_S24576x18432_S24576x18432)
      shapeCasts_S24576x18432_S24576x144x128) bitsLt_fp8e4m3_bf16)
    (broadcastTo S24576x144x128 (shapeCast S24576x144x1 (truncf .bf16 (shapeCast S24576x144 v4 shapeCasts_S24576x144_S24576x144) bitsLt_bf16_f32)
      shapeCasts_S24576x144_S24576x144x1) broadcasts_S24576x144x1_S24576x144x128)) shapeCasts_S24576x144x128_S24576x18432

/-- The scaled weights. -/
def ww : FVec Ideal S4608x18432 .bf16 :=
  shapeCast S4608x18432 (mulf (extf .bf16 (shapeCast S36x128x144x128 v11 shapeCasts_S4608x18432_S36x128x144x128) bitsLt_fp8e4m3_bf16)
    (broadcastTo S36x128x144x128 (shapeCast S36x1x144x1 (truncf .bf16 v14 bitsLt_bf16_f32) shapeCasts_S36x144_S36x1x144x1)
      broadcasts_S36x1x144x1_S36x128x144x128)) shapeCasts_S36x128x144x128_S4608x18432

/-- The contraction. -/
def mm (A : FVec Ideal S24576x18432 .bf16) (B : FVec Ideal S4608x18432 .bf16) : FVec Ideal S24576x4608 .f32 :=
  matmul dot_S24576x18432_S4608x18432_S24576x4608_1_1_0_0_n_n none A B (constant S24576x4608 .f32 0x00000000#32)

/-- The gated product of a contraction. -/
def hh (P : FVec Ideal S24576x4608 .f32) : FVec Ideal S24576x18x128 .f32 :=
  shapeCast S24576x18x128 (mulf (mulf (extractStridedSlice S24576x2304 ![0, 0] P slices_S24576x4608_o0_0_S24576x2304)
    (logistic (extractStridedSlice S24576x2304 ![0, 0] P slices_S24576x4608_o0_0_S24576x2304)))
    (extractStridedSlice S24576x2304 ![0, 2304] P slices_S24576x4608_o0_2304_S24576x2304)) shapeCasts_S24576x2304_S24576x18x128

theorem pay4_eq : k0_pay4 (F := Ideal) v0 v4 v11 v14 = hh (mm (xw v0 v4) (ww v11 v14)) := rfl

theorem xw_apply (R : Fin 24576) (k : Fin 18432) : xw v0 v4 (ix2 R k) = v0 (ix2 R k) * v4 (ix2 R ⟨k.val / 128, by omega⟩) := by
  unfold xw
  have hk : k.val = k.val / 128 * 128 + k.val % 128 := by omega
  let j : S24576x144x128.Idx := ix3 R ⟨k.val / 128, by omega⟩ ⟨k.val % 128, by omega⟩
  have hj : (S24576x144x128.rowMajor j).val = (S24576x18432.rowMajor (ix2 R k)).val := by
    refine (Shape.rowMajor_val_three j).trans (Eq.trans ?_ (Shape.rowMajor_val_two (ix2 R k)).symm)
    show (R.val * 144 + k.val / 128) * 128 + k.val % 128 = R.val * 18432 + k.val
    omega
  refine (shapeCast_apply _ _ _ j hj).trans ?_
  refine congr_arg₂ (fun a b : EReal => a * b) ?_ ?_
  · have e0 : shapeCast S24576x18432 v0 shapeCasts_S24576x18432_S24576x18432 (ix2 R k) = v0 (ix2 R k) := shapeCast_apply _ _ _ _ rfl
    have e1 : shapeCast S24576x144x128 (shapeCast S24576x18432 v0 shapeCasts_S24576x18432_S24576x18432)
        shapeCasts_S24576x18432_S24576x144x128 j = shapeCast S24576x18432 v0 shapeCasts_S24576x18432_S24576x18432 (ix2 R k) :=
      shapeCast_apply _ _ _ _ hj.symm
    exact e1.trans e0
  · refine (broadcastTo_apply _ _ _ (ix3 R ⟨k.val / 128, by omega⟩ (0 : Fin 1)) ?_).trans ?_
    · intro a
      fin_cases a <;> rfl
    · refine (shapeCast_apply _ _ _ (ix2 R ⟨k.val / 128, by omega⟩) ?_).trans ?_
      · refine (Shape.rowMajor_val_two (ix2 R (⟨k.val / 128, by omega⟩ : Fin 144))).trans (Eq.trans ?_ (Shape.rowMajor_val_three (ix3 R (⟨k.val / 128, by omega⟩ : Fin 144) (0 : Fin 1))).symm)
        show R.val * 144 + k.val / 128 = (R.val * 144 + k.val / 128) * 1 + 0
        omega
      · show shapeCast S24576x144 v4 _ _ = _
        exact shapeCast_apply _ _ _ (ix2 R ⟨k.val / 128, by omega⟩) rfl

theorem ww_apply (C : Fin 4608) (k : Fin 18432) :
    ww v11 v14 (ix2 C k) = v11 (ix2 C k) * v14 (ix2 ⟨C.val / 128, by omega⟩ ⟨k.val / 128, by omega⟩) := by
  unfold ww
  let j : S36x128x144x128.Idx := ix4 ⟨C.val / 128, by omega⟩ ⟨C.val % 128, by omega⟩ ⟨k.val / 128, by omega⟩ ⟨k.val % 128, by omega⟩
  have hj : (S36x128x144x128.rowMajor j).val = (S4608x18432.rowMajor (ix2 C k)).val := by
    refine (Shape.rowMajor_val_four j).trans (Eq.trans ?_ (Shape.rowMajor_val_two (ix2 C k)).symm)
    show ((C.val / 128 * 128 + C.val % 128) * 144 + k.val / 128) * 128 + k.val % 128 = C.val * 18432 + k.val
    omega
  refine (shapeCast_apply _ _ _ j hj).trans ?_
  refine congr_arg₂ (fun a b : EReal => a * b) ?_ ?_
  · show shapeCast S36x128x144x128 _ _ j = _
    exact shapeCast_apply _ _ _ (ix2 C k) hj.symm
  · refine (broadcastTo_apply _ _ _ (ix4 ⟨C.val / 128, by omega⟩ (0 : Fin 1) ⟨k.val / 128, by omega⟩ (0 : Fin 1)) ?_).trans ?_
    · intro a
      fin_cases a <;> rfl
    · refine (shapeCast_apply _ _ _ (ix2 ⟨C.val / 128, by omega⟩ ⟨k.val / 128, by omega⟩) ?_).trans rfl
      refine (Shape.rowMajor_val_two (ix2 (⟨C.val / 128, by omega⟩ : Fin 36) (⟨k.val / 128, by omega⟩ : Fin 144))).trans (Eq.trans ?_ (Shape.rowMajor_val_four (ix4 (⟨C.val / 128, by omega⟩ : Fin 36) (0 : Fin 1) (⟨k.val / 128, by omega⟩ : Fin 144) (0 : Fin 1))).symm)
      show C.val / 128 * 144 + k.val / 128 = ((C.val / 128 * 1 + 0) * 144 + k.val / 128) * 1 + 0
      omega

theorem mm_apply (A : FVec Ideal S24576x18432 .bf16) (B : FVec Ideal S4608x18432 .bf16) (R : Fin 24576) (C : Fin 4608) :
    mm A B (ix2 R C) = ∑ k : Fin 18432, A (ix2 R k) * B (ix2 C k) := by
  unfold mm
  simp only [pointwise]
  simp [Ideal.ofBits_zero_f32]

theorem hh_apply (P : FVec Ideal S24576x4608 .f32) (R : Fin 24576) (L : Fin 18) (l : Fin 128) :
    hh P (ix3 R L l) = KernelIdeal.Tile.gated (P (ix2 R ⟨128 * L.val + l.val, by omega⟩)) (P (ix2 R ⟨2304 + (128 * L.val + l.val), by omega⟩)) := by
  unfold hh
  refine (shapeCast_apply _ _ _ (ix2 R (⟨128 * L.val + l.val, by omega⟩ : Fin 2304)) ?_).trans ?_
  · refine (Shape.rowMajor_val_two (ix2 R (⟨128 * L.val + l.val, by omega⟩ : Fin 2304))).trans (Eq.trans ?_ (Shape.rowMajor_val_three (ix3 R L l)).symm)
    show R.val * 2304 + (128 * L.val + l.val) = (R.val * 18 + L.val) * 128 + l.val
    omega
  · have e0 : extractStridedSlice S24576x2304 ![0, 0] P slices_S24576x4608_o0_0_S24576x2304 (ix2 R (⟨128 * L.val + l.val, by omega⟩ : Fin 2304))
        = P (ix2 R ⟨128 * L.val + l.val, by omega⟩) := extractStridedSlice_apply _ _ _ _ _ fun a => by
      fin_cases a
      · exact (Nat.zero_add _).symm
      · exact (Nat.zero_add _).symm
    have e1 : extractStridedSlice S24576x2304 ![0, 2304] P slices_S24576x4608_o0_2304_S24576x2304 (ix2 R (⟨128 * L.val + l.val, by omega⟩ : Fin 2304))
        = P (ix2 R ⟨2304 + (128 * L.val + l.val), by omega⟩) := extractStridedSlice_apply _ _ _ _ _ fun a => by
      fin_cases a
      · exact (Nat.zero_add _).symm
      · rfl
    exact congr_arg₂ KernelIdeal.Tile.gated e0 e1

/-- The gated product is the closed form's. -/
theorem pay4_apply (R : Fin 24576) (L : Fin 18) (l : Fin 128) :
    k0_pay4 (F := Ideal) v0 v4 v11 v14 (ix3 R L l)
      = Spec.hval (fun R k => v0 (ix2 R k)) (fun R g => v4 (ix2 R g)) (fun C k => v11 (ix2 C k)) (fun C g => v14 (ix2 C g))
        R ⟨128 * L.val + l.val, by omega⟩ := by
  rw [pay4_eq, hh_apply, mm_apply, mm_apply]
  unfold Spec.hval Spec.dot Spec.prod
  simp only [xw_apply, ww_apply]

end Cert.ReferenceIdeal.Ref

end
-- ==== Proof.RefQuant.lean ====
/-
  The reference's quantiser, element by element: the groups' scaled maxima, their exponents, the codes and the scales.
-/
module

public import proofs.«01_k».proof.Proof.RefDot

@[expose] public section

set_option maxRecDepth 16384

noncomputable section

namespace Cert.ReferenceIdeal.Ref

open Cert.ReferenceIdeal Cert.ReferenceIdeal.Gen Cert.Quant
open Idealize.ShloMosaic

/-- The groups' scaled maxima. -/
def tmax (h : FVec Ideal S24576x18x128 .f32) : FVec Ideal S24576x18x1 .f32 :=
  mulf (shapeCast S24576x18x1 (multiReduction .maximumf [2] S24576x18 (absf h) 0xFF800000#32 reduces_S24576x18x128_S24576x18 (.inl rfl) rfl)
    shapeCasts_S24576x18_S24576x18x1) (broadcast S24576x18x1 (Scalar.ofBits .f32 0x3B124925#32))

/-- The exponents compared with. -/
def exps : FVec Ideal S24576x18x252 .f32 :=
  sitofp .f32 (subi (iota .tc S24576x18x252 32 [2] iota_S24576x18x252_d2_w32) (broadcast S24576x18x252 126#32))

/-- The greatest exponent met, over the groups. -/
def rexp (t : FVec Ideal S24576x18x1 .f32) : FVec Ideal S24576x18x1 .f32 :=
  shapeCast S24576x18x1 (multiReduction .maximumf [2] S24576x18
    (select (cmpf .ole (exp2 exps) (broadcastTo S24576x18x252 t broadcasts_S24576x18x1_S24576x18x252))
      (addf exps (broadcast S24576x18x252 (Scalar.ofBits .f32 0x3F800000#32))) (broadcast S24576x18x252 (Scalar.ofBits .f32 0xFF800000#32)))
    0xFF800000#32 reduces_S24576x18x252_S24576x18 (.inl rfl) rfl) shapeCasts_S24576x18_S24576x18x1

variable (v0 : Vec Ideal S24576x18432 .fp8e4m3) (v4 : Vec Ideal S24576x144 .f32) (v11 : Vec Ideal S4608x18432 .fp8e4m3)
  (v14 : Vec Ideal S36x144 .f32)

theorem pay5_eq : k0_pay5 (F := Ideal) v0 v4 v11 v14 = tmax (k0_pay4 (F := Ideal) v0 v4 v11 v14) := rfl

theorem pay6_eq : k0_pay6 (F := Ideal) v0 v4 v11 v14 = rexp (k0_pay5 (F := Ideal) v0 v4 v11 v14) := rfl

theorem rowMajor_unit (R : Fin 24576) (L : Fin 18) :
    (S24576x18.rowMajor (ix2 R L)).val = (S24576x18x1.rowMajor (ix3 R L (0 : Fin 1))).val := by
  refine (Shape.rowMajor_val_two (ix2 R L)).trans (Eq.trans ?_ (Shape.rowMajor_val_three (ix3 R L (0 : Fin 1))).symm)
  show R.val * 18 + L.val = (R.val * 18 + L.val) * 1 + 0
  omega

theorem red_apply (h : FVec Ideal S24576x18x128 .f32) (R : Fin 24576) (L : Fin 18) :
    multiReduction .maximumf [2] S24576x18 (absf h) 0xFF800000#32 reduces_S24576x18x128_S24576x18 (.inl rfl) rfl (ix2 R L)
      = Finset.univ.fold max (Ideal.ofBits .f32 0xFF800000#32) (fun l : Fin 128 => max (h (ix3 R L l)) (-(h (ix3 R L l)))) := by
  simp only [pointwise]
  exact congrArg (fun f => Finset.fold max _ f Finset.univ) (funext fun l => rfl)

theorem mulf_splat (U : FVec Ideal S24576x18x1 .f32) (k : BitVec 32) (j : S24576x18x1.Idx) :
    mulf U (broadcast S24576x18x1 (Scalar.ofBits .f32 k)) j = U j * Ideal.ofBits .f32 k := rfl

theorem tmax_apply (h : FVec Ideal S24576x18x128 .f32) (R : Fin 24576) (L : Fin 18) :
    tmax h (ix3 R L 0) = KernelIdeal.Tile.amax fun l => h (ix3 R L l) := by
  unfold tmax KernelIdeal.Tile.amax
  rw [← red_apply h R L]
  generalize multiReduction .maximumf [2] S24576x18 (absf h) 0xFF800000#32 reduces_S24576x18x128_S24576x18 (.inl rfl) rfl = V
  have e : shapeCast S24576x18x1 V shapeCasts_S24576x18_S24576x18x1 (ix3 R L 0) = V (ix2 R L) :=
    shapeCast_apply _ _ _ _ (rowMajor_unit R L)
  rw [← e]
  generalize shapeCast S24576x18x1 V shapeCasts_S24576x18_S24576x18x1 = U
  exact mulf_splat U _ _

theorem exps_apply (R : Fin 24576) (L : Fin 18) (k : Fin 252) : exps (ix3 R L k) = ((((k.val : ℤ) - 126 : ℤ) : ℝ) : EReal) := by
  have e : ∀ k : Fin 252, (BitVec.ofNat 32 (0 * 252 + k.val) - 126#32).toInt = (k.val : ℤ) - 126 := by decide +kernel
  rw [← e k]
  rfl

theorem ite_ofBool {p : Prop} [Decidable p] (a b : EReal) : (if BitVec.ofBool (decide p) = 1 then a else b) = if p then a else b := by
  by_cases h : p <;> simp [h]

theorem ofBits_bot : Ideal.ofBits .f32 0xFF800000#32 = ⊥ := by
  have a : ((0xFF800000#32).extractLsb' 31 1 == 1#1) = true := by decide
  have b : ((0xFF800000#32).extractLsb' 23 8).toNat = 2 ^ 8 - 1 := by decide
  have c : ((0xFF800000#32).extractLsb' 0 23).toNat = 0 := by decide
  show Ideal.ieee 8 23 0xFF800000#32 = _
  generalize 0xFF800000#32 = w at a b c
  unfold Ideal.ieee
  simp only [Nat.reduceAdd, a, b, c, if_true]

theorem ofBits_one : Ideal.ofBits .f32 0x3F800000#32 = 1 := by
  have h : pw 127 = Ideal.ofBits .f32 0x3F800000#32 := congrArg (Ideal.ofBits .f32) (by decide)
  rw [← h, pw_mid (by norm_num) (by norm_num)]
  norm_num

theorem rexp_apply (t : FVec Ideal S24576x18x1 .f32) (R : Fin 24576) (L : Fin 18) :
    rexp t (ix3 R L 0) = Finset.univ.sup fun k : Fin 252 =>
      if Ideal.exp2 ((((k.val : ℤ) - 126 : ℤ) : ℝ) : EReal) ≤ t (ix3 R L 0) then (((((k.val : ℤ) - 126 : ℤ) : ℝ) : EReal) + 1) else ⊥ := by
  unfold rexp
  refine (shapeCast_apply _ _ _ (ix2 R L) (rowMajor_unit R L)).trans ?_
  have hs : ∀ k : Fin 252, select (cmpf .ole (exp2 exps) (broadcastTo S24576x18x252 t broadcasts_S24576x18x1_S24576x18x252))
      (addf exps (broadcast S24576x18x252 (Scalar.ofBits .f32 0x3F800000#32))) (broadcast S24576x18x252 (Scalar.ofBits .f32 0xFF800000#32)) (ix3 R L k)
      = if Ideal.exp2 ((((k.val : ℤ) - 126 : ℤ) : ℝ) : EReal) ≤ t (ix3 R L 0) then (((((k.val : ℤ) - 126 : ℤ) : ℝ) : EReal) + 1) else ⊥ := by
    intro k
    have eb : broadcastTo S24576x18x252 t broadcasts_S24576x18x1_S24576x18x252 (ix3 R L k) = t (ix3 R L 0) :=
      broadcastTo_apply _ _ _ _ fun a => by fin_cases a <;> rfl
    show Scalar.select (Ideal.cmp .ole (Ideal.exp2 (exps (ix3 R L k))) (broadcastTo S24576x18x252 t broadcasts_S24576x18x1_S24576x18x252 (ix3 R L k)))
      (exps (ix3 R L k) + Ideal.ofBits .f32 0x3F800000#32) (Ideal.ofBits .f32 0xFF800000#32) = _
    rw [eb, exps_apply, ofBits_bot, ofBits_one]
    show (if BitVec.ofBool (decide (_ ≤ _)) = 1 then _ else _) = _
    exact ite_ofBool _ _
  generalize select (cmpf .ole (exp2 exps) _) _ _ = S at hs ⊢
  simp only [pointwise]
  simp only [hs]
  show Finset.fold max (Ideal.ofBits .f32 0xFF800000#32) _ _ = Finset.fold max ⊥ _ _
  rw [ofBits_bot]

/-- The exponent selected. -/
theorem pay1_apply (t : FVec Ideal S24576x18x1 .f32) (R : Fin 24576) (L : Fin 18) :
    k0_pay1 (F := Ideal) t (rexp t) (ix3 R L 0) = refExp (t (ix3 R L 0)) := by
  show Scalar.select (Ideal.cmp .olt (t (ix3 R L 0)) (Ideal.ofBits .f32 0x00800000#32)) (Ideal.ofBits .f32 0x00000000#32) (rexp t (ix3 R L 0)) = _
  rw [rexp_apply, ofBits_zero]
  unfold refExp
  have ep : pw 1 = Ideal.ofBits .f32 0x00800000#32 := congrArg (Ideal.ofBits .f32) (by decide)
  rw [ep]
  show (if BitVec.ofBool (decide (_ < _)) = 1 then _ else _) = _
  exact ite_ofBool _ _

/-- The scales. -/
theorem pay3_apply (t : FVec Ideal S24576x18x1 .f32) (R : Fin 24576) (L : Fin 18) :
    k0_pay3 (F := Ideal) t (rexp t) (ix2 R L) = scale (t (ix3 R L 0)) := by
  unfold k0_pay3
  refine (shapeCast_apply _ _ _ (ix3 R L 0) (rowMajor_unit R L).symm).trans ?_
  exact (congrArg Ideal.exp2 (pay1_apply t R L)).trans (exp2_refExp _)

/-- The codes. -/
theorem pay2_apply (h : FVec Ideal S24576x18x128 .f32) (t : FVec Ideal S24576x18x1 .f32) (R : Fin 24576) (C : Fin 2304) :
    k0_pay2 (F := Ideal) h t (rexp t) (ix2 R C)
      = KernelIdeal.Tile.code (t (ix3 R ⟨C.val / 128, by omega⟩ 0)) (h (ix3 R ⟨C.val / 128, by omega⟩ ⟨C.val % 128, by omega⟩)) := by
  unfold k0_pay2
  refine (shapeCast_apply _ _ _ (ix3 R (⟨C.val / 128, by omega⟩ : Fin 18) (⟨C.val % 128, by omega⟩ : Fin 128)) ?_).trans ?_
  · refine (Shape.rowMajor_val_three (ix3 R (⟨C.val / 128, by omega⟩ : Fin 18) (⟨C.val % 128, by omega⟩ : Fin 128))).trans
      (Eq.trans ?_ (Shape.rowMajor_val_two (ix2 R C)).symm)
    show (R.val * 18 + C.val / 128) * 128 + C.val % 128 = R.val * 2304 + C.val
    omega
  · unfold KernelIdeal.Tile.code
    refine congrArg (fun a : EReal => min _ (max _ (_ * a))) ?_
    refine (broadcastTo_apply _ _ _ (ix3 R (⟨C.val / 128, by omega⟩ : Fin 18) (0 : Fin 1)) fun a => by fin_cases a <;> rfl).trans ?_
    show Ideal.exp2 (Ideal.ofBits .f32 0x00000000#32 - k0_pay1 (F := Ideal) t (rexp t) (ix3 R (⟨C.val / 128, by omega⟩ : Fin 18) 0)) = _
    rw [ofBits_zero, pay1_apply]
    exact exp2_neg_refExp _

end Cert.ReferenceIdeal.Ref

end
-- ==== Proof.RefArrays.lean ====
/-
  What the reference's two result arrays hold after the run: the closed form, element by element.
-/
module

public import proofs.«01_k».proof.Proof.RefQuant
public import proofs.«01_k».proof.Proof.Gen.ReferenceIdeal.Value
public import Idealize.ShloMosaic.Lib.Pipeline.ValueKit

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- The activations as the launch leaves them, rows of all batches in order. -/
def xRow (c : Dev nD) (R : Fin 24576) (k : Fin 18432) : EReal :=
  m ((c : Thread nD τ).loc main_arg0) (ix3 ⟨R.val / 4096, by omega⟩ ⟨R.val % 4096, by omega⟩ k)

/-- Their scales. -/
def xsRow (c : Dev nD) (R : Fin 24576) (g : Fin 144) : EReal :=
  m ((c : Thread nD τ).loc main_arg1) (ix3 ⟨R.val / 4096, by omega⟩ ⟨R.val % 4096, by omega⟩ g)

/-- The weights. -/
def wRow (c : Dev nD) (C : Fin 4608) (k : Fin 18432) : EReal := m ((c : Thread nD τ).loc main_arg2) (ix2 C k)

/-- Their scales. -/
def wsRow (c : Dev nD) (C : Fin 36) (g : Fin 144) : EReal := m ((c : Thread nD τ).loc main_arg3) (ix2 C g)

theorem V_v0 (c : Dev nD) : V m c main_v0 = shapeCast S24576x18432 (m ((c : Thread nD τ).loc main_arg0)) shapeCasts_S6x4096x18432_S24576x18432 := by
  unfold_abbrev_sides
  after_results
  rfl

theorem V_v1 (c : Dev nD) : V m c main_v1 = shapeCast S24576x144 (m ((c : Thread nD τ).loc main_arg1)) shapeCasts_S6x4096x144_S24576x144 := by
  unfold_abbrev_sides
  after_results
  rfl

theorem V_v0_apply (c : Dev nD) (R : Fin 24576) (k : Fin 18432) : V m c main_v0 (ix2 R k) = xRow m c R k := by
  rw [V_v0]
  refine shapeCast_apply _ _ _ (ix3 ⟨R.val / 4096, by omega⟩ ⟨R.val % 4096, by omega⟩ k) ?_
  have hl := (Shape.rowMajor_val_three (ix3 (⟨R.val / 4096, by omega⟩ : Fin 6) (⟨R.val % 4096, by omega⟩ : Fin 4096) k))
  have hr := (Shape.rowMajor_val_two (ix2 R k))
  refine hl.trans (Eq.trans ?_ hr.symm)
  show (R.val / 4096 * 4096 + R.val % 4096) * 18432 + k.val = R.val * 18432 + k.val
  omega

theorem V_v1_apply (c : Dev nD) (R : Fin 24576) (g : Fin 144) : V m c main_v1 (ix2 R g) = xsRow m c R g := by
  rw [V_v1]
  refine shapeCast_apply _ _ _ (ix3 ⟨R.val / 4096, by omega⟩ ⟨R.val % 4096, by omega⟩ g) ?_
  have hl := (Shape.rowMajor_val_three (ix3 (⟨R.val / 4096, by omega⟩ : Fin 6) (⟨R.val % 4096, by omega⟩ : Fin 4096) g))
  have hr := (Shape.rowMajor_val_two (ix2 R g))
  refine hl.trans (Eq.trans ?_ hr.symm)
  show (R.val / 4096 * 4096 + R.val % 4096) * 144 + g.val = R.val * 144 + g.val
  omega

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

theorem iblk_0 (c : Dev nD) (t : Fin cfg0.N) (R : Fin 24576) (k : Fin 18432) : iblk m c 0 t (ix2 R k) = xRow m c R k := by
  rw [← V_v0_apply]
  blk_ext [iblk, idx t]

theorem iblk_1 (c : Dev nD) (t : Fin cfg0.N) (R : Fin 24576) (g : Fin 144) : iblk m c 1 t (ix2 R g) = xsRow m c R g := by
  rw [← V_v1_apply]
  blk_ext [iblk, idx t]

theorem iblk_2 (c : Dev nD) (t : Fin cfg0.N) (C : Fin 4608) (k : Fin 18432) : iblk m c 2 t (ix2 C k) = wRow m c C k := by
  unfold wRow
  blk_ext [iblk, V, idx t]

theorem iblk_3 (c : Dev nD) (t : Fin cfg0.N) (C : Fin 36) (g : Fin 144) : iblk m c 3 t (ix2 C g) = wsRow m c C g := by
  unfold wsRow
  blk_ext [iblk, V, idx t]

section
variable (x0 : Vec Ideal S24576x18432 .fp8e4m3) (x1 : Vec Ideal S24576x144 .f32) (x2 : Vec Ideal S4608x18432 .fp8e4m3)
  (x3 : Vec Ideal S36x144 .f32)

/-- What the body leaves in the first window, -/
theorem out4_eq : out0_4 (F := Ideal) x0 x1 x2 x3
    = k0_pay2 (F := Ideal) (k0_pay4 (F := Ideal) x0 x1 x2 x3) (k0_pay5 (F := Ideal) x0 x1 x2 x3) (k0_pay6 (F := Ideal) x0 x1 x2 x3) := by
  unfold out0_4 k0_pay8 k0_pay7
  have h : ∀ a : Fin 2, ![0, 0] a = 0 := by decide
  rw [View.canon_cons_unit_lit _ _ _ h, View.ld_unit_lit _ x0 h, View.ld_unit_lit _ x1 h, View.ld_unit_lit _ x2 h, View.ld_unit_lit _ x3 h]

/-- and in the second. -/
theorem out5_eq : out0_5 (F := Ideal) x0 x1 x2 x3
    = k0_pay3 (F := Ideal) (k0_pay5 (F := Ideal) x0 x1 x2 x3) (k0_pay6 (F := Ideal) x0 x1 x2 x3) := by
  unfold out0_5 k0_pay8 k0_pay7
  have h : ∀ a : Fin 2, ![0, 0] a = 0 := by decide
  rw [View.canon_cons_unit_lit _ _ _ h, View.ld_unit_lit _ x0 h, View.ld_unit_lit _ x1 h, View.ld_unit_lit _ x2 h, View.ld_unit_lit _ x3 h]

/-- A group's scaled maximum is the closed form's. -/
theorem pay5_apply (R : Fin 24576) (L : Fin 18) :
    k0_pay5 (F := Ideal) x0 x1 x2 x3 (ix3 R L 0)
      = Spec.gmax (fun R k => x0 (ix2 R k)) (fun R g => x1 (ix2 R g)) (fun C k => x2 (ix2 C k)) (fun C g => x3 (ix2 C g)) R L := by
  rw [pay5_eq, tmax_apply]
  unfold Spec.gmax
  exact congrArg KernelIdeal.Tile.amax (funext fun l => pay4_apply x0 x1 x2 x3 R L l)

theorem out4_apply (R : Fin 24576) (C : Fin 2304) :
    out0_4 (F := Ideal) x0 x1 x2 x3 (ix2 R C)
      = Spec.codes (fun R k => x0 (ix2 R k)) (fun R g => x1 (ix2 R g)) (fun C k => x2 (ix2 C k)) (fun C g => x3 (ix2 C g)) R C := by
  rw [out4_eq, pay6_eq, pay2_apply, pay5_apply, pay4_apply]
  unfold Spec.codes
  have e : (⟨128 * (C.val / 128) + C.val % 128, by omega⟩ : Fin 2304) = C := Fin.ext (by show 128 * (C.val / 128) + C.val % 128 = C.val; omega)
  exact congrArg _ (congrArg _ e)

theorem out5_apply (R : Fin 24576) (L : Fin 18) :
    out0_5 (F := Ideal) x0 x1 x2 x3 (ix2 R L)
      = Spec.scales (fun R k => x0 (ix2 R k)) (fun R g => x1 (ix2 R g)) (fun C k => x2 (ix2 C k)) (fun C g => x3 (ix2 C g)) R L := by
  rw [out5_eq, pay6_eq, pay3_apply, pay5_apply]
  rfl

end

/-- The first result, as an array, -/
def G4 (c : Dev nD) : Vec Ideal S24576x2304 .fp8e4m3 := fun i => Spec.codes (xRow m c) (xsRow m c) (wRow m c) (wsRow m c) (i 0) (i 1)

/-- and the second. -/
def G5 (c : Dev nD) : Vec Ideal S24576x18 .f32 := fun i => Spec.scales (xRow m c) (xsRow m c) (wRow m c) (wsRow m c) (i 0) (i 1)

theorem after4_apply (c : Dev nD) (t : Fin cfg0.N) (y i : S24576x2304.Idx) (h0 : (i 0).val = (y 0).val) (h1 : (i 1).val = (y 1).val) :
    (dats m 0 c).after 4 t y = G4 m c i := by
  have e : i = y := by
    rw [eq_ix2 i, eq_ix2 y]
    exact congr_arg₂ ix2 (Fin.ext h0) (Fin.ext h1)
  rw [after0_4, e, eq_ix2 y]
  refine (out4_apply _ _ _ _ (y 0) (y 1)).trans ?_
  simp only [iblk_0, iblk_1, iblk_2, iblk_3]
  rfl

theorem after5_apply (c : Dev nD) (t : Fin cfg0.N) (y i : S24576x18.Idx) (h0 : (i 0).val = (y 0).val) (h1 : (i 1).val = (y 1).val) :
    (dats m 0 c).after 5 t y = G5 m c i := by
  have e : i = y := by
    rw [eq_ix2 i, eq_ix2 y]
    exact congr_arg₂ ix2 (Fin.ext h0) (Fin.ext h1)
  rw [after0_5, e, eq_ix2 y]
  refine (out5_apply _ _ _ _ (y 0) (y 1)).trans ?_
  simp only [iblk_0, iblk_1, iblk_2, iblk_3]
  rfl

/-- After the run the arrays hold the closed form. -/
theorem array4 (c : Dev nD) : (dats m 0 c).arrAt 4 cfg0.N = G4 m c := by
  refine (dats m 0 c).arrAt_eq_of_covers 4 (G4 m c) (by decide +kernel) fun t hf y => ?_
  refine after4_apply m c t ((cfg0.win 4).xinj (cfg0.grid.coords t) y) _ ?_ ?_
  · blk_simp [idx t]
  · blk_simp [idx t]

theorem array5 (c : Dev nD) : (dats m 0 c).arrAt 5 cfg0.N = G5 m c := by
  refine (dats m 0 c).arrAt_eq_of_covers 5 (G5 m c) (by decide +kernel) fun t hf y => ?_
  refine after5_apply m c t ((cfg0.win 5).xinj (cfg0.grid.coords t) y) _ ?_ ?_
  · blk_simp [idx t]
  · blk_simp [idx t]

end Cert.ReferenceIdeal.Ref

end
-- ==== Proof.lean ====
/-
  The claim assembled: the kernel and its idealization run and keep their arguments, and the idealization's results are the
  reference's.
-/
module

public import proofs.«01_k».proof.Defs
public import proofs.«01_k».proof.Proof.KernelFrame
public import proofs.«01_k».proof.Proof.Arrays
public import proofs.«01_k».proof.Proof.RefArrays

@[expose] public section

noncomputable section

namespace Cert.Proof

open Idealize.ShloMosaic Idealize.SL.Sem

/-- The kernel runs, keeps its arguments and ends with every semaphore at zero. -/
theorem quiescent_kernel : quiescent_Kernel (hKernel := Kernel.Gen.facts) := fun m g _ =>
  (θ_run Kernel.defs _ _).mono (fun r h => ⟨fun c => Kernel.Body.kept m r h.1 c, h.2⟩)
    (Kernel.Body.run_main_quiescent m g)

/-- The idealized kernel runs, keeps its arguments and ends with every semaphore at zero. -/
theorem quiescent : quiescent_KernelIdeal (hKernelIdeal := KernelIdeal.Gen.facts) := fun m g _ =>
  (θ_run KernelIdeal.defs _ _).mono (fun r h => ⟨fun c => KernelIdeal.Body.kept m r h.1 c, h.2⟩)
    (KernelIdeal.Body.run_main_quiescent m g)

/-- From arguments that agree, the two closed forms are over the same arrays. -/
theorem rows_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)) :
    ReferenceIdeal.Ref.xRow m' c = KernelIdeal.Body.xRow m c ∧ ReferenceIdeal.Ref.xsRow m' c = KernelIdeal.Body.xsRow m c
      ∧ ReferenceIdeal.Ref.wRow m' c = KernelIdeal.Body.wRow m c ∧ ReferenceIdeal.Ref.wsRow m' c = KernelIdeal.Body.wsRow m c :=
  ⟨funext fun R => funext fun k => congrFun h.1 (ix3 ⟨R.val / 4096, by omega⟩ ⟨R.val % 4096, by omega⟩ k),
   funext fun R => funext fun g => congrFun h.2.1 (ix3 ⟨R.val / 4096, by omega⟩ ⟨R.val % 4096, by omega⟩ g),
   funext fun C => funext fun k => congrFun h.2.2.1 (ix2 C k),
   funext fun C => funext fun g => congrFun h.2.2.2 (ix2 C g)⟩

/-- The idealized kernel and the reference end with equal results. -/
theorem algebraic : algebraic_KernelIdeal_ReferenceIdeal (hKernelIdeal := KernelIdeal.Gen.facts)
    (hReferenceIdeal := ReferenceIdeal.Gen.facts) := by
  intro m g m' g' _ hagree
  refine ⟨fun c => KernelIdeal.Body.G5 m c, fun c => KernelIdeal.Body.G6 m c, ?_, ?_⟩
  · refine (θ_run KernelIdeal.defs _ _).mono (fun r h c => ?_) (KernelIdeal.Body.run_main_quiescent m g)
    have ha := KernelIdeal.Body.arrays m r h.1 c
    exact ⟨ha.1, ha.2, KernelIdeal.Body.kept m r h.1 c⟩
  · refine (θ_run ReferenceIdeal.defs _ _).mono (fun r h c => ?_) (ReferenceIdeal.Value.run_blocks m' g')
    obtain ⟨h4, h5, hk⟩ := h c
    obtain ⟨e0, e1, e2, e3⟩ := rows_eq m m' c (hagree c)
    refine ⟨h4.trans ((ReferenceIdeal.Ref.array4 m' c).trans ?_), h5.trans ((ReferenceIdeal.Ref.array5 m' c).trans ?_), hk⟩
    · unfold ReferenceIdeal.Ref.G4 KernelIdeal.Body.G5
      rw [e0, e1, e2, e3]
    · unfold ReferenceIdeal.Ref.G5 KernelIdeal.Body.G6
      rw [e0, e1, e2, e3]

/-- Everything claimed. -/
theorem claim : Cert.Claim :=
  ⟨Kernel.Gen.facts, KernelIdeal.Gen.facts, ReferenceIdeal.Gen.facts, quiescent_kernel, quiescent,
    fun m g _ => ReferenceIdeal.Gen.frame m g, trivial, algebraic⟩

end Cert.Proof

end
